-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateReferenceIdeal (m : (ℓ : Loc Cert.RotateReferenceIdeal.nD Cert.RotateReferenceIdeal.τ Cert.RotateReferenceIdeal.sig) → Buf (Elt Ideal) ℓ) : Prop :=
  True

def Pre_Compose [hPre_rotations_in_block : Cert.Pre_rotations_in_block.Facts] (m : (ℓ : Loc Cert.Compose.nD Cert.Compose.τ Cert.Compose.sig) → Buf (Elt Bits) ℓ) : Prop :=
  ∀ c : Dev Cert.Compose.nD,
    (Cert.Pre_rotations_in_block.fn (F := Bits) (m ((c.tc : Thread Cert.Compose.nD Cert.Compose.τ).loc Cert.Compose.main_arg0)) (m ((c.tc : Thread Cert.Compose.nD Cert.Compose.τ).loc Cert.Compose.main_arg1)) (m ((c.tc : Thread Cert.Compose.nD Cert.Compose.τ).loc Cert.Compose.main_arg2))) = (fun _ => 1#1)

def Pre_ComposeIdeal [hPre_rotations_in_block : Cert.Pre_rotations_in_block.Facts] (m : (ℓ : Loc Cert.ComposeIdeal.nD Cert.ComposeIdeal.τ Cert.ComposeIdeal.sig) → Buf (Elt Ideal) ℓ) : Prop :=
  ∀ c : Dev Cert.ComposeIdeal.nD,
    (Cert.Pre_rotations_in_block.fn (F := Ideal) (m ((c.tc : Thread Cert.ComposeIdeal.nD Cert.ComposeIdeal.τ).loc Cert.ComposeIdeal.main_arg0)) (m ((c.tc : Thread Cert.ComposeIdeal.nD Cert.ComposeIdeal.τ).loc Cert.ComposeIdeal.main_arg1)) (m ((c.tc : Thread Cert.ComposeIdeal.nD Cert.ComposeIdeal.τ).loc Cert.ComposeIdeal.main_arg2))) = (fun _ => 1#1)

def Pre_ComposeReferenceIdeal (m : (ℓ : Loc Cert.ComposeReferenceIdeal.nD Cert.ComposeReferenceIdeal.τ Cert.ComposeReferenceIdeal.sig) → Buf (Elt Ideal) ℓ) : Prop :=
  True

def Pre_ComposeReferenceIdeal_rotations_in_block [hPre_rotations_in_block : Cert.Pre_rotations_in_block.Facts] (m : (ℓ : Loc Cert.ComposeReferenceIdeal.nD Cert.ComposeReferenceIdeal.τ Cert.ComposeReferenceIdeal.sig) → Buf (Elt Ideal) ℓ) : Prop :=
  ∀ c : Dev Cert.ComposeReferenceIdeal.nD,
    (Cert.Pre_rotations_in_block.fn (F := Ideal) (m ((c.tc : Thread Cert.ComposeReferenceIdeal.nD Cert.ComposeReferenceIdeal.τ).loc Cert.ComposeReferenceIdeal.main_arg0)) (m ((c.tc : Thread Cert.ComposeReferenceIdeal.nD Cert.ComposeReferenceIdeal.τ).loc Cert.ComposeReferenceIdeal.main_arg1)) (m ((c.tc : Thread Cert.ComposeReferenceIdeal.nD Cert.ComposeReferenceIdeal.τ).loc Cert.ComposeReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ r.2.sem = fun _ => 0)

def quiescent_RotateReferenceIdeal [hRotateReferenceIdeal : Cert.RotateReferenceIdeal.Facts] : Prop :=
  ∀ (m : (ℓ : Loc Cert.RotateReferenceIdeal.nD Cert.RotateReferenceIdeal.τ Cert.RotateReferenceIdeal.sig) → Buf (Elt Ideal) ℓ) (g : Dev Cert.RotateReferenceIdeal.nD → PrngReg), Pre_RotateReferenceIdeal m →
    θ_run (Cert.RotateReferenceIdeal.defs (F := Ideal)) (onTc (τ := Cert.RotateReferenceIdeal.τ) (Cert.RotateReferenceIdeal.main (F := Ideal))) ⟨m, fun _ => 0, g⟩ (fun r => (∀ c : Dev Cert.RotateReferenceIdeal.nD,
      r.2.mem ((c.tc : Thread Cert.RotateReferenceIdeal.nD Cert.RotateReferenceIdeal.τ).loc Cert.RotateReferenceIdeal.main_arg0) = m ((c.tc : Thread Cert.RotateReferenceIdeal.nD Cert.RotateReferenceIdeal.τ).loc Cert.RotateReferenceIdeal.main_arg0)
      ∧ r.2.mem ((c.tc : Thread Cert.RotateReferenceIdeal.nD Cert.RotateReferenceIdeal.τ).loc Cert.RotateReferenceIdeal.main_arg1) = m ((c.tc : Thread Cert.RotateReferenceIdeal.nD Cert.RotateReferenceIdeal.τ).loc Cert.RotateReferenceIdeal.main_arg1))
      ∧ r.2.sem = fun _ => 0)

def quiescent_Compose [hCompose : Cert.Compose.Facts] [hPre_rotations_in_block : Cert.Pre_rotations_in_block.Facts] : Prop :=
  ∀ (m : (ℓ : Loc Cert.Compose.nD Cert.Compose.τ Cert.Compose.sig) → Buf (Elt Bits) ℓ) (g : Dev Cert.Compose.nD → PrngReg), Pre_Compose m →
    θ_run (Cert.Compose.defs (F := Bits)) (onTc (τ := Cert.Compose.τ) (Cert.Compose.main (F := Bits))) ⟨m, fun _ => 0, g⟩ (fun r => (∀ c : Dev Cert.Compose.nD,
      r.2.mem ((c.tc : Thread Cert.Compose.nD Cert.Compose.τ).loc Cert.Compose.main_arg0) = m ((c.tc : Thread Cert.Compose.nD Cert.Compose.τ).loc Cert.Compose.main_arg0)
      ∧ r.2.mem ((c.tc : Thread Cert.Compose.nD Cert.Compose.τ).loc Cert.Compose.main_arg1) = m ((c.tc : Thread Cert.Compose.nD Cert.Compose.τ).loc Cert.Compose.main_arg1)
      ∧ r.2.mem ((c.tc : Thread Cert.Compose.nD Cert.Compose.τ).loc Cert.Compose.main_arg2) = m ((c.tc : Thread Cert.Compose.nD Cert.Compose.τ).loc Cert.Compose.main_arg2))
      ∧ r.2.sem = fun _ => 0)

def quiescent_ComposeIdeal [hComposeIdeal : Cert.ComposeIdeal.Facts] [hPre_rotations_in_block : Cert.Pre_rotations_in_block.Facts] : Prop :=
  ∀ (m : (ℓ : Loc Cert.ComposeIdeal.nD Cert.ComposeIdeal.τ Cert.ComposeIdeal.sig) → Buf (Elt Ideal) ℓ) (g : Dev Cert.ComposeIdeal.nD → PrngReg), Pre_ComposeIdeal m →
    θ_run (Cert.ComposeIdeal.defs (F := Ideal)) (onTc (τ := Cert.ComposeIdeal.τ) (Cert.ComposeIdeal.main (F := Ideal))) ⟨m, fun _ => 0, g⟩ (fun r => (∀ c : Dev Cert.ComposeIdeal.nD,
      r.2.mem ((c.tc : Thread Cert.ComposeIdeal.nD Cert.ComposeIdeal.τ).loc Cert.ComposeIdeal.main_arg0) = m ((c.tc : Thread Cert.ComposeIdeal.nD Cert.ComposeIdeal.τ).loc Cert.ComposeIdeal.main_arg0)
      ∧ r.2.mem ((c.tc : Thread Cert.ComposeIdeal.nD Cert.ComposeIdeal.τ).loc Cert.ComposeIdeal.main_arg1) = m ((c.tc : Thread Cert.ComposeIdeal.nD Cert.ComposeIdeal.τ).loc Cert.ComposeIdeal.main_arg1)
      ∧ r.2.mem ((c.tc : Thread Cert.ComposeIdeal.nD Cert.ComposeIdeal.τ).loc Cert.ComposeIdeal.main_arg2) = m ((c.tc : Thread Cert.ComposeIdeal.nD Cert.ComposeIdeal.τ).loc Cert.ComposeIdeal.main_arg2))
      ∧ r.2.sem = fun _ => 0)

def quiescent_ComposeReferenceIdeal [hComposeReferenceIdeal : Cert.ComposeReferenceIdeal.Facts] : Prop :=
  ∀ (m : (ℓ : Loc Cert.ComposeReferenceIdeal.nD Cert.ComposeReferenceIdeal.τ Cert.ComposeReferenceIdeal.sig) → Buf (Elt Ideal) ℓ) (g : Dev Cert.ComposeReferenceIdeal.nD → PrngReg), Pre_ComposeReferenceIdeal m →
    θ_run (Cert.ComposeReferenceIdeal.defs (F := Ideal)) (onTc (τ := Cert.ComposeReferenceIdeal.τ) (Cert.ComposeReferenceIdeal.main (F := Ideal))) ⟨m, fun _ => 0, g⟩ (fun r => (∀ c : Dev Cert.ComposeReferenceIdeal.nD,
      r.2.mem ((c.tc : Thread Cert.ComposeReferenceIdeal.nD Cert.ComposeReferenceIdeal.τ).loc Cert.ComposeReferenceIdeal.main_arg0) = m ((c.tc : Thread Cert.ComposeReferenceIdeal.nD Cert.ComposeReferenceIdeal.τ).loc Cert.ComposeReferenceIdeal.main_arg0)
      ∧ r.2.mem ((c.tc : Thread Cert.ComposeReferenceIdeal.nD Cert.ComposeReferenceIdeal.τ).loc Cert.ComposeReferenceIdeal.main_arg1) = m ((c.tc : Thread Cert.ComposeReferenceIdeal.nD Cert.ComposeReferenceIdeal.τ).loc Cert.ComposeReferenceIdeal.main_arg1)
      ∧ r.2.mem ((c.tc : Thread Cert.ComposeReferenceIdeal.nD Cert.ComposeReferenceIdeal.τ).loc Cert.ComposeReferenceIdeal.main_arg2) = m ((c.tc : Thread Cert.ComposeReferenceIdeal.nD Cert.ComposeReferenceIdeal.τ).loc Cert.ComposeReferenceIdeal.main_arg2))
      ∧ r.2.sem = fun _ => 0)

def quiescent_ComposeReferenceIdeal_pre_rotations_in_block [hComposeReferenceIdeal : Cert.ComposeReferenceIdeal.Facts] [hPre_rotations_in_block : Cert.Pre_rotations_in_block.Facts] : Prop :=
  ∀ (m : (ℓ : Loc Cert.ComposeReferenceIdeal.nD Cert.ComposeReferenceIdeal.τ Cert.ComposeReferenceIdeal.sig) → Buf (Elt Ideal) ℓ) (g : Dev Cert.ComposeReferenceIdeal.nD → PrngReg), Pre_ComposeReferenceIdeal_rotations_in_block m →
    θ_run (Cert.ComposeReferenceIdeal.defs (F := Ideal)) (onTc (τ := Cert.ComposeReferenceIdeal.τ) (Cert.ComposeReferenceIdeal.main (F := Ideal))) ⟨m, fun _ => 0, g⟩ (fun r => (∀ c : Dev Cert.ComposeReferenceIdeal.nD,
      r.2.mem ((c.tc : Thread Cert.ComposeReferenceIdeal.nD Cert.ComposeReferenceIdeal.τ).loc Cert.ComposeReferenceIdeal.main_arg0) = m ((c.tc : Thread Cert.ComposeReferenceIdeal.nD Cert.ComposeReferenceIdeal.τ).loc Cert.ComposeReferenceIdeal.main_arg0)
      ∧ r.2.mem ((c.tc : Thread Cert.ComposeReferenceIdeal.nD Cert.ComposeReferenceIdeal.τ).loc Cert.ComposeReferenceIdeal.main_arg1) = m ((c.tc : Thread Cert.ComposeReferenceIdeal.nD Cert.ComposeReferenceIdeal.τ).loc Cert.ComposeReferenceIdeal.main_arg1)
      ∧ r.2.mem ((c.tc : Thread Cert.ComposeReferenceIdeal.nD Cert.ComposeReferenceIdeal.τ).loc Cert.ComposeReferenceIdeal.main_arg2) = m ((c.tc : Thread Cert.ComposeReferenceIdeal.nD Cert.ComposeReferenceIdeal.τ).loc Cert.ComposeReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Rotate_RotateIdeal : Prop :=
  True

def algebraic_RotateIdeal_RotateReferenceIdeal [hRotateIdeal : Cert.RotateIdeal.Facts] [hRotateReferenceIdeal : Cert.RotateReferenceIdeal.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotateReferenceIdeal.nD Cert.RotateReferenceIdeal.τ Cert.RotateReferenceIdeal.sig) → Buf (Elt Ideal) ℓ) (g' : Dev Cert.RotateReferenceIdeal.nD → PrngReg), Pre_RotateIdeal m →
    (∀ c : Dev Cert.RotateIdeal.nD,
      m' ((c.tc : Thread Cert.RotateReferenceIdeal.nD Cert.RotateReferenceIdeal.τ).loc Cert.RotateReferenceIdeal.main_arg0) = m ((c.tc : Thread Cert.RotateIdeal.nD Cert.RotateIdeal.τ).loc Cert.RotateIdeal.main_arg0)
      ∧ m' ((c.tc : Thread Cert.RotateReferenceIdeal.nD Cert.RotateReferenceIdeal.τ).loc Cert.RotateReferenceIdeal.main_arg1) = m ((c.tc : Thread Cert.RotateIdeal.nD Cert.RotateIdeal.τ).loc Cert.RotateIdeal.main_arg1)) →
    ∃ (v0 : (c : Dev Cert.RotateIdeal.nD) → Buf (Elt Ideal) ((c.tc : Thread Cert.RotateIdeal.nD Cert.RotateIdeal.τ).loc Cert.RotateIdeal.main_v0_0)) (v1 : (c : Dev Cert.RotateIdeal.nD) → Buf (Elt Ideal) ((c.tc : Thread Cert.RotateIdeal.nD Cert.RotateIdeal.τ).loc Cert.RotateIdeal.main_v0_1)) (v2 : (c : Dev Cert.RotateIdeal.nD) → Buf (Elt Ideal) ((c.tc : Thread Cert.RotateIdeal.nD Cert.RotateIdeal.τ).loc Cert.RotateIdeal.main_v0_2)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v0_0) = v0 c
          ∧ r.2.mem ((c.tc : Thread Cert.RotateIdeal.nD Cert.RotateIdeal.τ).loc Cert.RotateIdeal.main_v0_1) = v1 c
          ∧ r.2.mem ((c.tc : Thread Cert.RotateIdeal.nD Cert.RotateIdeal.τ).loc Cert.RotateIdeal.main_v0_2) = v2 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1))
      ∧ θ_run (Cert.RotateReferenceIdeal.defs (F := Ideal)) (onTc (τ := Cert.RotateReferenceIdeal.τ) (Cert.RotateReferenceIdeal.main (F := Ideal))) ⟨m', fun _ => 0, g'⟩ (fun r => ∀ c : Dev Cert.RotateReferenceIdeal.nD,
          r.2.mem ((c.tc : Thread Cert.RotateReferenceIdeal.nD Cert.RotateReferenceIdeal.τ).loc Cert.RotateReferenceIdeal.main_v53) = v0 c
          ∧ r.2.mem ((c.tc : Thread Cert.RotateReferenceIdeal.nD Cert.RotateReferenceIdeal.τ).loc Cert.RotateReferenceIdeal.main_v51) = v1 c
          ∧ r.2.mem ((c.tc : Thread Cert.RotateReferenceIdeal.nD Cert.RotateReferenceIdeal.τ).loc Cert.RotateReferenceIdeal.main_v52) = v2 c
          ∧ r.2.mem ((c.tc : Thread Cert.RotateReferenceIdeal.nD Cert.RotateReferenceIdeal.τ).loc Cert.RotateReferenceIdeal.main_arg0) = m' ((c.tc : Thread Cert.RotateReferenceIdeal.nD Cert.RotateReferenceIdeal.τ).loc Cert.RotateReferenceIdeal.main_arg0)
          ∧ r.2.mem ((c.tc : Thread Cert.RotateReferenceIdeal.nD Cert.RotateReferenceIdeal.τ).loc Cert.RotateReferenceIdeal.main_arg1) = m' ((c.tc : Thread Cert.RotateReferenceIdeal.nD Cert.RotateReferenceIdeal.τ).loc Cert.RotateReferenceIdeal.main_arg1))

def preserves_Compose_ComposeIdeal : Prop :=
  True

def algebraic_ComposeIdeal_ComposeReferenceIdeal [hComposeIdeal : Cert.ComposeIdeal.Facts] [hComposeReferenceIdeal : Cert.ComposeReferenceIdeal.Facts] [hPre_rotations_in_block : Cert.Pre_rotations_in_block.Facts] : Prop :=
  ∀ (m : (ℓ : Loc Cert.ComposeIdeal.nD Cert.ComposeIdeal.τ Cert.ComposeIdeal.sig) → Buf (Elt Ideal) ℓ) (g : Dev Cert.ComposeIdeal.nD → PrngReg)
    (m' : (ℓ : Loc Cert.ComposeReferenceIdeal.nD Cert.ComposeReferenceIdeal.τ Cert.ComposeReferenceIdeal.sig) → Buf (Elt Ideal) ℓ) (g' : Dev Cert.ComposeReferenceIdeal.nD → PrngReg), Pre_ComposeIdeal m →
    (∀ c : Dev Cert.ComposeIdeal.nD,
      m' ((c.tc : Thread Cert.ComposeReferenceIdeal.nD Cert.ComposeReferenceIdeal.τ).loc Cert.ComposeReferenceIdeal.main_arg0) = m ((c.tc : Thread Cert.ComposeIdeal.nD Cert.ComposeIdeal.τ).loc Cert.ComposeIdeal.main_arg0)
      ∧ m' ((c.tc : Thread Cert.ComposeReferenceIdeal.nD Cert.ComposeReferenceIdeal.τ).loc Cert.ComposeReferenceIdeal.main_arg1) = m ((c.tc : Thread Cert.ComposeIdeal.nD Cert.ComposeIdeal.τ).loc Cert.ComposeIdeal.main_arg1)
      ∧ m' ((c.tc : Thread Cert.ComposeReferenceIdeal.nD Cert.ComposeReferenceIdeal.τ).loc Cert.ComposeReferenceIdeal.main_arg2) = m ((c.tc : Thread Cert.ComposeIdeal.nD Cert.ComposeIdeal.τ).loc Cert.ComposeIdeal.main_arg2)) →
    ∃ (v0 : (c : Dev Cert.ComposeIdeal.nD) → Buf (Elt Ideal) ((c.tc : Thread Cert.ComposeIdeal.nD Cert.ComposeIdeal.τ).loc Cert.ComposeIdeal.main_v2)),
      θ_run (Cert.ComposeIdeal.defs (F := Ideal)) (onTc (τ := Cert.ComposeIdeal.τ) (Cert.ComposeIdeal.main (F := Ideal))) ⟨m, fun _ => 0, g⟩ (fun r => ∀ c : Dev Cert.ComposeIdeal.nD,
          r.2.mem ((c.tc : Thread Cert.ComposeIdeal.nD Cert.ComposeIdeal.τ).loc Cert.ComposeIdeal.main_v2) = v0 c
          ∧ r.2.mem ((c.tc : Thread Cert.ComposeIdeal.nD Cert.ComposeIdeal.τ).loc Cert.ComposeIdeal.main_arg0) = m ((c.tc : Thread Cert.ComposeIdeal.nD Cert.ComposeIdeal.τ).loc Cert.ComposeIdeal.main_arg0)
          ∧ r.2.mem ((c.tc : Thread Cert.ComposeIdeal.nD Cert.ComposeIdeal.τ).loc Cert.ComposeIdeal.main_arg1) = m ((c.tc : Thread Cert.ComposeIdeal.nD Cert.ComposeIdeal.τ).loc Cert.ComposeIdeal.main_arg1)
          ∧ r.2.mem ((c.tc : Thread Cert.ComposeIdeal.nD Cert.ComposeIdeal.τ).loc Cert.ComposeIdeal.main_arg2) = m ((c.tc : Thread Cert.ComposeIdeal.nD Cert.ComposeIdeal.τ).loc Cert.ComposeIdeal.main_arg2))
      ∧ θ_run (Cert.ComposeReferenceIdeal.defs (F := Ideal)) (onTc (τ := Cert.ComposeReferenceIdeal.τ) (Cert.ComposeReferenceIdeal.main (F := Ideal))) ⟨m', fun _ => 0, g'⟩ (fun r => ∀ c : Dev Cert.ComposeReferenceIdeal.nD,
          r.2.mem ((c.tc : Thread Cert.ComposeReferenceIdeal.nD Cert.ComposeReferenceIdeal.τ).loc Cert.ComposeReferenceIdeal.main_v29) = v0 c
          ∧ r.2.mem ((c.tc : Thread Cert.ComposeReferenceIdeal.nD Cert.ComposeReferenceIdeal.τ).loc Cert.ComposeReferenceIdeal.main_arg0) = m' ((c.tc : Thread Cert.ComposeReferenceIdeal.nD Cert.ComposeReferenceIdeal.τ).loc Cert.ComposeReferenceIdeal.main_arg0)
          ∧ r.2.mem ((c.tc : Thread Cert.ComposeReferenceIdeal.nD Cert.ComposeReferenceIdeal.τ).loc Cert.ComposeReferenceIdeal.main_arg1) = m' ((c.tc : Thread Cert.ComposeReferenceIdeal.nD Cert.ComposeReferenceIdeal.τ).loc Cert.ComposeReferenceIdeal.main_arg1)
          ∧ r.2.mem ((c.tc : Thread Cert.ComposeReferenceIdeal.nD Cert.ComposeReferenceIdeal.τ).loc Cert.ComposeReferenceIdeal.main_arg2) = m' ((c.tc : Thread Cert.ComposeReferenceIdeal.nD Cert.ComposeReferenceIdeal.τ).loc Cert.ComposeReferenceIdeal.main_arg2))

def Claim : Prop :=
  ∃ (hKernel : Cert.Kernel.Facts) (hKernelIdeal : Cert.KernelIdeal.Facts) (hReferenceIdeal : Cert.ReferenceIdeal.Facts) (hRotate : Cert.Rotate.Facts) (hRotateIdeal : Cert.RotateIdeal.Facts) (hRotateReferenceIdeal : Cert.RotateReferenceIdeal.Facts) (hCompose : Cert.Compose.Facts) (hComposeIdeal : Cert.ComposeIdeal.Facts) (hComposeReferenceIdeal : Cert.ComposeReferenceIdeal.Facts) (hPre_rotations_in_block : Cert.Pre_rotations_in_block.Facts),
    quiescent_Kernel (hKernel := hKernel)
    ∧ quiescent_KernelIdeal (hKernelIdeal := hKernelIdeal)
    ∧ quiescent_ReferenceIdeal (hReferenceIdeal := hReferenceIdeal)
    ∧ quiescent_Rotate (hRotate := hRotate)
    ∧ quiescent_RotateIdeal (hRotateIdeal := hRotateIdeal)
    ∧ quiescent_RotateReferenceIdeal (hRotateReferenceIdeal := hRotateReferenceIdeal)
    ∧ quiescent_Compose (hCompose := hCompose) (hPre_rotations_in_block := hPre_rotations_in_block)
    ∧ quiescent_ComposeIdeal (hComposeIdeal := hComposeIdeal) (hPre_rotations_in_block := hPre_rotations_in_block)
    ∧ quiescent_ComposeReferenceIdeal (hComposeReferenceIdeal := hComposeReferenceIdeal)
    ∧ quiescent_ComposeReferenceIdeal_pre_rotations_in_block (hComposeReferenceIdeal := hComposeReferenceIdeal) (hPre_rotations_in_block := hPre_rotations_in_block)
    ∧ preserves_Kernel_KernelIdeal
    ∧ algebraic_KernelIdeal_ReferenceIdeal (hKernelIdeal := hKernelIdeal) (hReferenceIdeal := hReferenceIdeal)
    ∧ preserves_Rotate_RotateIdeal
    ∧ algebraic_RotateIdeal_RotateReferenceIdeal (hRotateIdeal := hRotateIdeal) (hRotateReferenceIdeal := hRotateReferenceIdeal)
    ∧ preserves_Compose_ComposeIdeal
    ∧ algebraic_ComposeIdeal_ComposeReferenceIdeal (hComposeIdeal := hComposeIdeal) (hComposeReferenceIdeal := hComposeReferenceIdeal) (hPre_rotations_in_block := hPre_rotations_in_block)
-- ==== Pre_rotations_in_block.lean ====
abbrev S120x256x2 : Shape := ⟨3, ![120, 256, 2]⟩
abbrev S120 : Shape := ⟨1, ![120]⟩
abbrev S120x1x1 : Shape := ⟨3, ![120, 1, 1]⟩
abbrev S256 : Shape := ⟨1, ![256]⟩
abbrev S1x256x1 : Shape := ⟨3, ![1, 256, 1]⟩
abbrev S120x256x1 : Shape := ⟨3, ![120, 256, 1]⟩
abbrev S_ : Shape := ⟨0, ![]⟩

class Facts : Prop where
  bcast_S120_S120x1x1_0 : S120.BroadcastsInDim S120x1x1 (![0] : Fin 1 → Fin S120x1x1.rank)
  bcast_S256_S1x256x1_1 : S256.BroadcastsInDim S1x256x1 (![1] : Fin 1 → Fin S1x256x1.rank)
  bcast_S1x256x1_S120x256x1_0_1_2 : S1x256x1.BroadcastsInDim S120x256x1 (![0, 1, 2] : Fin 3 → Fin S120x256x1.rank)
  bcast_S120x1x1_S120x256x1_0_1_2 : S120x1x1.BroadcastsInDim S120x256x1 (![0, 1, 2] : Fin 3 → Fin S120x256x1.rank)
  bcast_S_S120x1x1 : S_.BroadcastsInDim S120x1x1 (![] : Fin 0 → Fin S120x1x1.rank)
  bcast_S_S120x256x2 : S_.BroadcastsInDim S120x256x2 (![] : Fin 0 → Fin S120x256x2.rank)
  bcast_S120x256x1_S120x256x2_0_1_2 : S120x256x1.BroadcastsInDim S120x256x2 (![0, 1, 2] : Fin 3 → Fin S120x256x2.rank)
  bcast_S120x1x1_S120x256x2_0_1_2 : S120x1x1.BroadcastsInDim S120x256x2 (![0, 1, 2] : Fin 3 → Fin S120x256x2.rank)

variable [Facts]

def fn {F : FTy → Type} [FloatOps F] (main_arg0 : IVec S120x256x2 32) (main_arg1 : FVec F S120x256x2 .f32) (main_arg2 : IVec S120 32) : IVec S120x256x2 1 :=
  let main_v0 : IVec S120x1x1 32 := broadcastInDim S120x1x1 ![0] bcast_S120_S120x1x1_0 main_arg2
  let main_v1 : IVec S256 32 := iotaInDim S256 32 0
  let main_v2 : IVec S1x256x1 32 := broadcastInDim S1x256x1 ![1] bcast_S256_S1x256x1_1 main_v1
  let main_v3 : IVec S120x256x1 32 := broadcastInDim S120x256x1 ![0, 1, 2] bcast_S1x256x1_S120x256x1_0_1_2 main_v2
  let main_v4 : IVec S120x256x1 32 := broadcastInDim S120x256x1 ![0, 1, 2] bcast_S120x1x1_S120x256x1_0_1_2 main_v0
  let main_v5 : IVec S120x256x1 1 := cmpi .slt main_v3 main_v4
  let main_c : IVec S_ 32 := constantI S_ 32 256#32
  let main_v6 : IVec S120x1x1 32 := broadcastInDim S120x1x1 ![] bcast_S_S120x1x1 main_c
  let main_v7 : IVec S120x1x1 1 := cmpi .sle main_v0 main_v6
  let main_v8 : IVec S120x256x1 1 := noti main_v5
  let main_c_0 : IVec S_ 32 := constantI S_ 32 0#32
  let main_v9 : IVec S120x256x2 32 := broadcastInDim S120x256x2 ![] bcast_S_S120x256x2 main_c_0
  let main_v10 : IVec S120x256x2 1 := cmpi .sge main_arg0 main_v9
  let main_c_1 : IVec S_ 32 := constantI S_ 32 128#32
  let main_v11 : IVec S120x256x2 32 := broadcastInDim S120x256x2 ![] bcast_S_S120x256x2 main_c_1
  let main_v12 : IVec S120x256x2 1 := cmpi .slt main_arg0 main_v11
  let main_v13 : IVec S120x256x2 1 := andi main_v10 main_v12
  let main_v14 : IVec S120x256x2 1 := broadcastInDim S120x256x2 ![0, 1, 2] bcast_S120x256x1_S120x256x2_0_1_2 main_v8
  let main_v15 : IVec S120x256x2 1 := ori main_v14 main_v13
  let main_v16 : IVec S120x256x2 1 := broadcastInDim S120x256x2 ![0, 1, 2] bcast_S120x1x1_S120x256x2_0_1_2 main_v7
  let main_v17 : IVec S120x256x2 1 := andi main_v16 main_v15
  main_v17
-- ==== Kernel.lean ====
abbrev S4096x15360 : Shape := ⟨2, ![4096, 15360]⟩
abbrev S15360x5120 : Shape := ⟨2, ![15360, 5120]⟩
abbrev S4096x128 : Shape := ⟨2, ![4096, 128]⟩
abbrev S5120 : Shape := ⟨1, ![5120]⟩
abbrev S1x5120 : Shape := ⟨2, ![1, 5120]⟩
abbrev S4096x5120 : Shape := ⟨2, ![4096, 5120]⟩
abbrev S1024x15360 : Shape := ⟨2, ![1024, 15360]⟩
abbrev S15360x512 : Shape := ⟨2, ![15360, 512]⟩
abbrev S1024x128 : Shape := ⟨2, ![1024, 128]⟩
abbrev S1x512 : Shape := ⟨2, ![1, 512]⟩
abbrev S1024x512 : Shape := ⟨2, ![1024, 512]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x15360, .fp8e4m3⟩
  | .hbm, ⟨1, _⟩ => ⟨S15360x5120, .fp8e4m3⟩
  | .hbm, ⟨2, _⟩ => ⟨S4096x128, .f32⟩
  | .hbm, ⟨3, _⟩ => ⟨S5120, .f32⟩
  | .hbm, ⟨4, _⟩ => ⟨S1x5120, .f32⟩
  | .hbm, ⟨5, _⟩ => ⟨S4096x5120, .bf16⟩
  | .local _ .vmem, ⟨0, _⟩ => ⟨S1024x15360, .fp8e4m3⟩
  | .local _ .vmem, ⟨1, _⟩ => ⟨S1024x15360, .fp8e4m3⟩
  | .local _ .vmem, ⟨2, _⟩ => ⟨S15360x512, .fp8e4m3⟩
  | .local _ .vmem, ⟨3, _⟩ => ⟨S15360x512, .fp8e4m3⟩
  | .local _ .vmem, ⟨4, _⟩ => ⟨S1024x128, .f32⟩
  | .local _ .vmem, ⟨5, _⟩ => ⟨S1024x128, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | _, _ => ⟨S4096x15360, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x15360 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S15360x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x15360 : Shape := ⟨2, ![4096, 15360]⟩
abbrev S15360x5120 : Shape := ⟨2, ![15360, 5120]⟩
abbrev S4096x128 : Shape := ⟨2, ![4096, 128]⟩
abbrev S5120 : Shape := ⟨1, ![5120]⟩
abbrev S1x5120 : Shape := ⟨2, ![1, 5120]⟩
abbrev S4096x5120 : Shape := ⟨2, ![4096, 5120]⟩
abbrev S4096x1 : Shape := ⟨2, ![4096, 1]⟩

abbrev nBuf : Space → Nat
  | .hbm => 6
  | .vmem => 5
  | .smem => 0
  | _ => 0

abbrev bufTy : (tb : Table) → Fin (tcTables nBuf tb) → BufTy
  | .hbm, ⟨0, _⟩ => ⟨S4096x15360, .fp8e4m3⟩
  | .hbm, ⟨1, _⟩ => ⟨S15360x5120, .fp8e4m3⟩
  | .hbm, ⟨2, _⟩ => ⟨S4096x128, .f32⟩
  | .hbm, ⟨3, _⟩ => ⟨S5120, .f32⟩
  | .hbm, ⟨4, _⟩ => ⟨S1x5120, .f32⟩
  | .hbm, ⟨5, _⟩ => ⟨S4096x5120, .bf16⟩
  | .local _ .vmem, ⟨0, _⟩ => ⟨S4096x15360, .fp8e4m3⟩
  | .local _ .vmem, ⟨1, _⟩ => ⟨S15360x5120, .fp8e4m3⟩
  | .local _ .vmem, ⟨2, _⟩ => ⟨S4096x128, .f32⟩
  | .local _ .vmem, ⟨3, _⟩ => ⟨S1x5120, .f32⟩
  | .local _ .vmem, ⟨4, _⟩ => ⟨S4096x5120, .bf16⟩
  | _, _ => ⟨S4096x15360, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x15360 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Rotate.lean ====
abbrev S4096x15360 : Shape := ⟨2, ![4096, 15360]⟩
abbrev S120x256x256 : Shape := ⟨3, ![120, 256, 256]⟩
abbrev S16x1x256 : Shape := ⟨3, ![16, 1, 256]⟩
abbrev S4096x128 : Shape := ⟨2, ![4096, 128]⟩
abbrev S256x15360 : Shape := ⟨2, ![256, 15360]⟩
abbrev S1x1x256 : Shape := ⟨3, ![1, 1, 256]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩

abbrev nBuf : Space → Nat
  | .hbm => 5
  | .vmem => 11
  | .smem => 0
  | _ => 0

abbrev bufTy : (tb : Table) → Fin (tcTables nBuf tb) → BufTy
  | .hbm, ⟨0, _⟩ => ⟨S4096x15360, .bf16⟩
  | .hbm, ⟨1, _⟩ => ⟨S120x256x256, .bf16⟩
  | .hbm, ⟨2, _⟩ => ⟨S4096x15360, .fp8e4m3⟩
  | .hbm, ⟨3, _⟩ => ⟨S16x1x256, .f32⟩
  | .hbm, ⟨4, _⟩ => ⟨S4096x128, .f32⟩
  | .local _ .vmem, ⟨0, _⟩ => ⟨S256x15360, .bf16⟩
  | .local _ .vmem, ⟨1, _⟩ => ⟨S256x15360, .bf16⟩
  | .local _ .vmem, ⟨2, _⟩ => ⟨S120x256x256, .bf16⟩
  | .local _ .vmem, ⟨3, _⟩ => ⟨S256x15360, .fp8e4m3⟩
  | .local _ .vmem, ⟨4, _⟩ => ⟨S256x15360, .fp8e4m3⟩
  | .local _ .vmem, ⟨5, _⟩ => ⟨S1x1x256, .f32⟩
  | .local _ .vmem, ⟨6, _⟩ => ⟨S1x1x256, .f32⟩
  | .local _ .vmem, ⟨7, _⟩ => ⟨S256x128, .f32⟩
  | .local _ .vmem, ⟨8, _⟩ => ⟨S256x128, .f32⟩
  | .local _ .vmem, ⟨9, _⟩ => ⟨S256x15360, .f32⟩
  | .local _ .vmem, ⟨10, _⟩ => ⟨S256x128, .f32⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S256x15360 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S120x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x15360 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RotateReferenceIdeal.lean ====
abbrev S4096x15360 : Shape := ⟨2, ![4096, 15360]⟩
abbrev S120x256x256 : Shape := ⟨3, ![120, 256, 256]⟩
abbrev S4096x120x128 : Shape := ⟨3, ![4096, 120, 128]⟩
abbrev S120x128x128 : Shape := ⟨3, ![120, 128, 128]⟩
abbrev S120x128x4096 : Shape := ⟨3, ![120, 128, 4096]⟩
abbrev S_ : Shape := ⟨0, ![]⟩
abbrev S4096 : Shape := ⟨1, ![4096]⟩
abbrev S4096x1 : Shape := ⟨2, ![4096, 1]⟩
abbrev S253 : Shape := ⟨1, ![253]⟩
abbrev S1x253 : Shape := ⟨2, ![1, 253]⟩
abbrev S4096x253 : Shape := ⟨2, ![4096, 253]⟩
abbrev S16x1x256 : Shape := ⟨3, ![16, 1, 256]⟩
abbrev S4096x128 : Shape := ⟨2, ![4096, 128]⟩

abbrev nBuf : Space → Nat
  | .hbm => 69
  | .vmem => 3
  | .smem => 0
  | _ => 0

abbrev bufTy : (tb : Table) → Fin (tcTables nBuf tb) → BufTy
  | .hbm, ⟨0, _⟩ => ⟨S4096x15360, .bf16⟩
  | .hbm, ⟨1, _⟩ => ⟨S120x256x256, .bf16⟩
  | .hbm, ⟨2, _⟩ => ⟨S4096x120x128, .bf16⟩
  | .hbm, ⟨3, _⟩ => ⟨S4096x120x128, .f32⟩
  | .hbm, ⟨4, _⟩ => ⟨S120x256x256, .f32⟩
  | .hbm, ⟨5, _⟩ => ⟨S120x128x128, .f32⟩
  | .hbm, ⟨6, _⟩ => ⟨S120x128x4096, .f32⟩
  | .hbm, ⟨7, _⟩ => ⟨S4096x120x128, .f32⟩
  | .hbm, ⟨8, _⟩ => ⟨S120x128x128, .f32⟩
  | .hbm, ⟨9, _⟩ => ⟨S120x128x4096, .f32⟩
  | .hbm, ⟨10, _⟩ => ⟨S4096x120x128, .f32⟩
  | .hbm, ⟨11, _⟩ => ⟨S4096x120x128, .f32⟩
  | .hbm, ⟨12, _⟩ => ⟨S120x128x128, .f32⟩
  | .hbm, ⟨13, _⟩ => ⟨S120x128x4096, .f32⟩
  | .hbm, ⟨14, _⟩ => ⟨S4096x120x128, .f32⟩
  | .hbm, ⟨15, _⟩ => ⟨S120x128x128, .f32⟩
  | .hbm, ⟨16, _⟩ => ⟨S120x128x4096, .f32⟩
  | .hbm, ⟨17, _⟩ => ⟨S4096x120x128, .f32⟩
  | .hbm, ⟨18, _⟩ => ⟨S4096x120x128, .f32⟩
  | .hbm, ⟨19, _⟩ => ⟨S4096x120x128, .f32⟩
  | .hbm, ⟨20, _⟩ => ⟨S4096x15360, .f32⟩
  | .hbm, ⟨21, _⟩ => ⟨S4096x15360, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S253, .i32⟩
  | .hbm, ⟨29, _⟩ => ⟨S_, .i32⟩
  | .hbm, ⟨30, _⟩ => ⟨S253, .i32⟩
  | .hbm, ⟨31, _⟩ => ⟨S253, .i32⟩
  | .hbm, ⟨32, _⟩ => ⟨S253, .f32⟩
  | .hbm, ⟨33, _⟩ => ⟨S_, .f32⟩
  | .hbm, ⟨34, _⟩ => ⟨S253, .f32⟩
  | .hbm, ⟨35, _⟩ => ⟨S253, .f32⟩
  | .hbm, ⟨36, _⟩ => ⟨S1x253, .f32⟩
  | .hbm, ⟨37, _⟩ => ⟨S4096x253, .f32⟩
  | .hbm, ⟨38, _⟩ => ⟨S4096x253, .f32⟩
  | .hbm, ⟨39, _⟩ => ⟨S4096x253, .i1⟩
  | .hbm, ⟨40, _⟩ => ⟨S4096x253, .i32⟩
  | .hbm, ⟨41, _⟩ => ⟨S_, .i32⟩
  | .hbm, ⟨42, _⟩ => ⟨S4096, .i32⟩
  | .hbm, ⟨43, _⟩ => ⟨S4096x1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S_, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i32⟩
  | .hbm, ⟨52, _⟩ => ⟨S4096x1, .i32⟩
  | .hbm, ⟨53, _⟩ => ⟨S4096x1, .i32⟩
  | .hbm, ⟨54, _⟩ => ⟨S_, .i32⟩
  | .hbm, ⟨55, _⟩ => ⟨S_, .i32⟩
  | .hbm, ⟨56, _⟩ => ⟨S4096x1, .i32⟩
  | .hbm, ⟨57, _⟩ => ⟨S4096x1, .i32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S16x1x256, .f32⟩
  | .hbm, ⟨67, _⟩ => ⟨S4096x128, .f32⟩
  | .hbm, ⟨68, _⟩ => ⟨S4096x15360, .fp8e4m3⟩
  | .local _ .vmem, ⟨0, _⟩ => ⟨S4096x15360, .f32⟩
  | .local _ .vmem, ⟨1, _⟩ => ⟨S4096x1, .f32⟩
  | .local _ .vmem, ⟨2, _⟩ => ⟨S4096x15360, .fp8e4m3⟩
  | _, _ => ⟨S4096x15360, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_2 : Ref sig .tc := ⟨.hbm, 41, rfl⟩
abbrev main_v35 : Ref sig .tc := ⟨.hbm, 42, rfl⟩
abbrev main_v36 : Ref sig .tc := ⟨.hbm, 43, rfl⟩
abbrev main_c_3 : Ref sig .tc := ⟨.hbm, 44, rfl⟩
abbrev main_v37 : Ref sig .tc := ⟨.hbm, 45, rfl⟩
abbrev main_v38 : Ref sig .tc := ⟨.hbm, 46, rfl⟩
abbrev main_c_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_v42 : Ref sig .tc := ⟨.hbm, 52, rfl⟩
abbrev main_v43 : Ref sig .tc := ⟨.hbm, 53, rfl⟩
abbrev main_c_6 : Ref sig .tc := ⟨.hbm, 54, rfl⟩
abbrev main_call0_v0 : Ref sig .tc := ⟨.hbm, 55, rfl⟩
abbrev main_call0_v1 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x15360 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x15360 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Compose.lean ====
abbrev S120x256x2 : Shape := ⟨3, ![120, 256, 2]⟩
abbrev S120 : Shape := ⟨1, ![120]⟩
abbrev S120x1x512 : Shape := ⟨3, ![120, 1, 512]⟩
abbrev S120x256x256 : Shape := ⟨3, ![120, 256, 256]⟩
abbrev S1x1x512 : Shape := ⟨3, ![1, 1, 512]⟩
abbrev S1x256x256 : Shape := ⟨3, ![1, 256, 256]⟩
abbrev S128x128 : Shape := ⟨2, ![128, 128]⟩
abbrev S1 : Shape := ⟨1, ![1]⟩
abbrev S1x1x1 : Shape := ⟨3, ![1, 1, 1]⟩
abbrev S1x128 : Shape := ⟨2, ![1, 128]⟩
abbrev S128x256 : Shape := ⟨2, ![128, 256]⟩
abbrev S256x256 : Shape := ⟨2, ![256, 256]⟩

abbrev nBuf : Space → Nat
  | .hbm => 6
  | .vmem => 3
  | .smem => 5
  | _ => 0

abbrev bufTy : (tb : Table) → Fin (tcTables nBuf tb) → BufTy
  | .hbm, ⟨0, _⟩ => ⟨S120x256x2, .i32⟩
  | .hbm, ⟨1, _⟩ => ⟨S120x256x2, .f32⟩
  | .hbm, ⟨2, _⟩ => ⟨S120, .i32⟩
  | .hbm, ⟨3, _⟩ => ⟨S120x1x512, .i32⟩
  | .hbm, ⟨4, _⟩ => ⟨S120x1x512, .f32⟩
  | .hbm, ⟨5, _⟩ => ⟨S120x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S128x128, .f32⟩
  | .local _ .smem, ⟨0, _⟩ => ⟨S120, .i32⟩
  | .local _ .smem, ⟨1, _⟩ => ⟨S1x1x512, .i32⟩
  | .local _ .smem, ⟨2, _⟩ => ⟨S1x1x512, .i32⟩
  | .local _ .smem, ⟨3, _⟩ => ⟨S1x1x512, .f32⟩
  | .local _ .smem, ⟨4, _⟩ => ⟨S1x1x512, .f32⟩
  | _, _ => ⟨S120x256x2, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg3_0 : Ref sig .tc := ⟨.vmem, 0, rfl⟩
abbrev cc0_stg3_1 : Ref sig .tc := ⟨.vmem, 1, rfl⟩
abbrev cc0_scratch0 : Ref sig .tc := ⟨.vmem, 2, rfl⟩
abbrev cc0_stg0_0 : Ref sig .tc := ⟨.smem, 0, rfl⟩
abbrev cc0_stg1_0 : Ref sig .tc := ⟨.smem, 1, rfl⟩
abbrev cc0_stg1_1 : Ref sig .tc := ⟨.smem, 2, rfl⟩
abbrev cc0_stg2_0 : Ref sig .tc := ⟨.smem, 3, rfl⟩
abbrev cc0_stg2_1 : Ref sig .tc := ⟨.smem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![120], ![false]⟩

def k0_off1 (i : grid0.Coords) : Fin 1 → Nat :=
  let arg0 : BitVec 32 := BitVec.ofNat 32 (i 0).val
  let v9 : Index := Scalar.indexCast arg0
  ![v9.toNat]
@[reducible] def k0_t1_loop (v10 : BitVec 32) : Scf.Loop 32 :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_3 : BitVec 32 := 1#32
  ⟨c0_i32, v15, c1_i32_3⟩

def k0_off2 (v10 : BitVec 32) (k0_t1 : Fin (k0_t1_loop v10).trips) : Fin 3 → Nat :=
  let c0_11 : Index := 0#32
  let c0_12 : Index := 0#32
  let c2_i32 : BitVec 32 := 2#32
  let c0_i32 : BitVec 32 := 0#32
  let c1_i32_3 : BitVec 32 := 1#32
  let arg6 : BitVec 32 := Scf.iv c0_i32 c1_i32_3 k0_t1
  let v34 : BitVec 32 := Scalar.muli c2_i32 arg6
  let v35 : Index := Scalar.indexCast v34
  ![0, 0, v35.toNat]
def k0_off3 (v10 : BitVec 32) (k0_t1 : Fin (k0_t1_loop v10).trips) : Fin 3 → Nat :=
  let c0_15 : Index := 0#32
  let c0_16 : Index := 0#32
  let c2_i32_13 : BitVec 32 := 2#32
  let c0_i32 : BitVec 32 := 0#32
  let c1_i32_3 : BitVec 32 := 1#32
  let arg6 : BitVec 32 := Scf.iv c0_i32 c1_i32_3 k0_t1
  let v37 : BitVec 32 := Scalar.muli c2_i32_13 arg6
  let c1_i32_14 : BitVec 32 := 1#32
  let v38 : BitVec 32 := Scalar.addi v37 c1_i32_14
  let v39 : Index := Scalar.indexCast v38
  ![0, 0, v39.toNat]
def k0_off4 (v36 : BitVec 32) : Fin 2 → Nat :=
  let v48 : Index := Scalar.indexCast v36
  let c0_24 : Index := 0#32
  ![v48.toNat, 0]

def k0_off5 (v40 : BitVec 32) : Fin 2 → Nat :=
  let v50 : Index := Scalar.indexCast v40
  let c0_25 : Index := 0#32
  ![v50.toNat, 0]

def k0_chk3 (v40 : BitVec 32) : Prop :=
  (∀ a, (k0_off5 v40) a + S1x128.size a ≤ S128x128.size a)
theorem k0_off5_inb : ∀ (v40 : BitVec 32) (k0_hw3 : k0_chk3 v40), ∀ a, (k0_off5 v40) a + S1x128.size a ≤ S128x128.size a := fun v40 k0_hw3 => k0_hw3

def k0_off6 (v36 : BitVec 32) : Fin 2 → Nat :=
  let v66 : Index := Scalar.indexCast v36
  let c0_27 : Index := 0#32
  ![v66.toNat, 0]

def k0_chk2 (v36 : BitVec 32) : Prop :=
  (∀ a, (k0_off4 v36) a + S1x128.size a ≤ S128x128.size a) ∧
  (∀ a, (k0_off6 v36) a + S1x128.size a ≤ S128x128.size a)
theorem k0_off4_inb : ∀ (v36 : BitVec 32) (k0_hw2 : k0_chk2 v36), ∀ a, (k0_off4 v36) a + S1x128.size a ≤ S128x128.size a := fun v36 k0_hw2 => k0_hw2.1
theorem k0_off6_inb : ∀ (v36 : BitVec 32) (k0_hw2 : k0_chk2 v36), ∀ a, (k0_off6 v36) a + S1x128.size a ≤ S128x128.size a := fun v36 k0_hw2 => k0_hw2.2

@[reducible] def k0_t2_loop (v10 : BitVec 32) : Scf.Loop 32 :=
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_4 : BitVec 32 := 1#32
  ⟨v15, v12, c1_i32_4⟩
def k0_off7 (v10 : BitVec 32) (k0_t2 : Fin (k0_t2_loop v10).trips) : Fin 3 → Nat :=
  let c0_11 : Index := 0#32
  let c0_12 : Index := 0#32
  let c2_i32 : BitVec 32 := 2#32
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_4 : BitVec 32 := 1#32
  let arg6 : BitVec 32 := Scf.iv v15 c1_i32_4 k0_t2
  let v34 : BitVec 32 := Scalar.muli c2_i32 arg6
  let v35 : Index := Scalar.indexCast v34
  ![0, 0, v35.toNat]
def k0_off8 (v10 : BitVec 32) (k0_t2 : Fin (k0_t2_loop v10).trips) : Fin 3 → Nat :=
  let c0_15 : Index := 0#32
  let c0_16 : Index := 0#32
  let c2_i32_13 : BitVec 32 := 2#32
  let c0_i32 : BitVec 32 := 0#32
  let v11 : BitVec 32 := Scalar.subi v10 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_4 : BitVec 32 := 1#32
  let arg6 : BitVec 32 := Scf.iv v15 c1_i32_4 k0_t2
  let v37 : BitVec 32 := Scalar.muli c2_i32_13 arg6
  let c1_i32_14 : BitVec 32 := 1#32
  let v38 : BitVec 32 := Scalar.addi v37 c1_i32_14
  let v39 : Index := Scalar.indexCast v38
  ![0, 0, v39.toNat]

def k0_chk1 (v10 : BitVec 32) : Prop :=
  ((k0_t1_loop v10).OK) ∧
  (∀ k0_t1 : Fin (k0_t1_loop v10).trips, ∀ a, (k0_off2 v10 k0_t1) a + S1x1x1.size a ≤ S1x1x512.size a) ∧
  (∀ k0_t1 : Fin (k0_t1_loop v10).trips, ∀ a, (k0_off3 v10 k0_t1) a + S1x1x1.size a ≤ S1x1x512.size a) ∧
  ((k0_t2_loop v10).OK) ∧
  (∀ k0_t2 : Fin (k0_t2_loop v10).trips, ∀ a, (k0_off7 v10 k0_t2) a + S1x1x1.size a ≤ S1x1x512.size a) ∧
  (∀ k0_t2 : Fin (k0_t2_loop v10).trips, ∀ a, (k0_off8 v10 k0_t2) a + S1x1x1.size a ≤ S1x1x512.size a)
theorem k0_t1_ok : ∀ (v10 : BitVec 32) (k0_hw1 : k0_chk1 v10), (k0_t1_loop v10).OK := fun v10 k0_hw1 => k0_hw1.1
theorem k0_off2_inb : ∀ (v10 : BitVec 32) (k0_hw1 : k0_chk1 v10) (k0_t1 : Fin (k0_t1_loop v10).trips), ∀ a, (k0_off2 v10 k0_t1) a + S1x1x1.size a ≤ S1x1x512.size a := fun v10 k0_hw1 k0_t1 => k0_hw1.2.1 k0_t1
theorem k0_off3_inb : ∀ (v10 : BitVec 32) (k0_hw1 : k0_chk1 v10) (k0_t1 : Fin (k0_t1_loop v10).trips), ∀ a, (k0_off3 v10 k0_t1) a + S1x1x1.size a ≤ S1x1x512.size a := fun v10 k0_hw1 k0_t1 => k0_hw1.2.2.1 k0_t1
theorem k0_t2_ok : ∀ (v10 : BitVec 32) (k0_hw1 : k0_chk1 v10), (k0_t2_loop v10).OK := fun v10 k0_hw1 => k0_hw1.2.2.2.1
theorem k0_off7_inb : ∀ (v10 : BitVec 32) (k0_hw1 : k0_chk1 v10) (k0_t2 : Fin (k0_t2_loop v10).trips), ∀ a, (k0_off7 v10 k0_t2) a + S1x1x1.size a ≤ S1x1x512.size a := fun v10 k0_hw1 k0_t2 => k0_hw1.2.2.2.2.1 k0_t2
theorem k0_off8_inb : ∀ (v10 : BitVec 32) (k0_hw1 : k0_chk1 v10) (k0_t2 : Fin (k0_t2_loop v10).trips), ∀ a, (k0_off8 v10 k0_t2) a + S1x1x1.size a ≤ S1x1x512.size a := fun v10 k0_hw1 k0_t2 => k0_hw1.2.2.2.2.2 k0_t2

def k0_off9 (v36 : BitVec 32) : Fin 2 → Nat :=
  let v48 : Index := Scalar.indexCast v36
  let c0_24 : Index := 0#32
  ![v48.toNat, 0]

def k0_off10 (v40 : BitVec 32) : Fin 2 → Nat :=
  let v50 : Index := Scalar.indexCast v40
  let c0_25 : Index := 0#32
  ![v50.toNat, 0]

def k0_chk5 (v40 : BitVec 32) : Prop :=
  (∀ a, (k0_off10 v40) a + S1x128.size a ≤ S128x128.size a)
theorem k0_off10_inb : ∀ (v40 : BitVec 32) (k0_hw5 : k0_chk5 v40), ∀ a, (k0_off10 v40) a + S1x128.size a ≤ S128x128.size a := fun v40 k0_hw5 => k0_hw5

def k0_off11 (v36 : BitVec 32) : Fin 2 → Nat :=
  let v66 : Index := Scalar.indexCast v36
  let c0_27 : Index := 0#32
  ![v66.toNat, 0]

def k0_chk4 (v36 : BitVec 32) : Prop :=
  (∀ a, (k0_off9 v36) a + S1x128.size a ≤ S128x128.size a) ∧
  (∀ a, (k0_off11 v36) a + S1x128.size a ≤ S128x128.size a)
theorem k0_off9_inb : ∀ (v36 : BitVec 32) (k0_hw4 : k0_chk4 v36), ∀ a, (k0_off9 v36) a + S1x128.size a ≤ S128x128.size a := fun v36 k0_hw4 => k0_hw4.1
theorem k0_off11_inb : ∀ (v36 : BitVec 32) (k0_hw4 : k0_chk4 v36), ∀ a, (k0_off11 v36) a + S1x128.size a ≤ S128x128.size a := fun v36 k0_hw4 => k0_hw4.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S120 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ComposeReferenceIdeal.lean ====
abbrev S120x256x2 : Shape := ⟨3, ![120, 256, 2]⟩
abbrev S120 : Shape := ⟨1, ![120]⟩
abbrev S128x128 : Shape := ⟨2, ![128, 128]⟩
abbrev S_ : Shape := ⟨0, ![]⟩
abbrev S120x128x128 : Shape := ⟨3, ![120, 128, 128]⟩
abbrev S128 : Shape := ⟨1, ![128]⟩
abbrev S1x128x1 : Shape := ⟨3, ![1, 128, 1]⟩
abbrev S256 : Shape := ⟨1, ![256]⟩
abbrev S256x1 : Shape := ⟨2, ![256, 1]⟩
abbrev S1x120 : Shape := ⟨2, ![1, 120]⟩
abbrev S256x120 : Shape := ⟨2, ![256, 120]⟩
abbrev S256x120x2 : Shape := ⟨3, ![256, 120, 2]⟩
abbrev S1x120x2 : Shape := ⟨3, ![1, 120, 2]⟩
abbrev S120x2 : Shape := ⟨2, ![120, 2]⟩
abbrev S120x1 : Shape := ⟨2, ![120, 1]⟩
abbrev S120x1x1 : Shape := ⟨3, ![120, 1, 1]⟩
abbrev S120x128x1 : Shape := ⟨3, ![120, 128, 1]⟩
abbrev S120x128 : Shape := ⟨2, ![120, 128]⟩
abbrev S120x1x128 : Shape := ⟨3, ![120, 1, 128]⟩
abbrev S120x128x256 : Shape := ⟨3, ![120, 128, 256]⟩
abbrev S120x256x256 : Shape := ⟨3, ![120, 256, 256]⟩

abbrev nBuf : Space → Nat
  | .hbm => 111
  | .vmem => 0
  | .smem => 0
  | _ => 0

abbrev bufTy : (tb : Table) → Fin (tcTables nBuf tb) → BufTy
  | .hbm, ⟨0, _⟩ => ⟨S120x256x2, .i32⟩
  | .hbm, ⟨1, _⟩ => ⟨S120x256x2, .f32⟩
  | .hbm, ⟨2, _⟩ => ⟨S120, .i32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S120x128x128, .f32⟩
  | .hbm, ⟨11, _⟩ => ⟨S128, .i32⟩
  | .hbm, ⟨12, _⟩ => ⟨S1x128x1, .i32⟩
  | .hbm, ⟨13, _⟩ => ⟨S256, .i32⟩
  | .hbm, ⟨14, _⟩ => ⟨S256x1, .i32⟩
  | .hbm, ⟨15, _⟩ => ⟨S1x120, .i32⟩
  | .hbm, ⟨16, _⟩ => ⟨S256x120, .i32⟩
  | .hbm, ⟨17, _⟩ => ⟨S256x120, .i32⟩
  | .hbm, ⟨18, _⟩ => ⟨S256x120, .i1⟩
  | .hbm, ⟨19, _⟩ => ⟨S256x120x2, .i32⟩
  | .hbm, ⟨20, _⟩ => ⟨S256x120x2, .f32⟩
  | .hbm, ⟨21, _⟩ => ⟨S_, .i32⟩
  | .hbm, ⟨22, _⟩ => ⟨S256x120, .i1⟩
  | .hbm, ⟨23, _⟩ => ⟨S256x120x2, .i32⟩
  | .hbm, ⟨24, _⟩ => ⟨S256x120x2, .f32⟩
  | .hbm, ⟨25, _⟩ => ⟨S1x128x1, .i32⟩
  | .hbm, ⟨26, _⟩ => ⟨S_, .i32⟩
  | .hbm, ⟨27, _⟩ => ⟨S120x128x128, .f32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S1x120, .i1⟩
  | .hbm, ⟨32, _⟩ => ⟨S120, .i1⟩
  | .hbm, ⟨33, _⟩ => ⟨S_, .i32⟩
  | .hbm, ⟨34, _⟩ => ⟨S_, .i32⟩
  | .hbm, ⟨35, _⟩ => ⟨S1x120x2, .i32⟩
  | .hbm, ⟨36, _⟩ => ⟨S120x2, .i32⟩
  | .hbm, ⟨37, _⟩ => ⟨S_, .i32⟩
  | .hbm, ⟨38, _⟩ => ⟨S_, .i32⟩
  | .hbm, ⟨39, _⟩ => ⟨S1x120x2, .f32⟩
  | .hbm, ⟨40, _⟩ => ⟨S120x2, .f32⟩
  | .hbm, ⟨41, _⟩ => ⟨S120x1, .i32⟩
  | .hbm, ⟨42, _⟩ => ⟨S120, .i32⟩
  | .hbm, ⟨43, _⟩ => ⟨S120x1x1, .i32⟩
  | .hbm, ⟨44, _⟩ => ⟨S120x1, .i32⟩
  | .hbm, ⟨45, _⟩ => ⟨S120, .i32⟩
  | .hbm, ⟨46, _⟩ => ⟨S120x1x1, .i32⟩
  | .hbm, ⟨47, _⟩ => ⟨S120x1, .f32⟩
  | .hbm, ⟨48, _⟩ => ⟨S120, .f32⟩
  | .hbm, ⟨49, _⟩ => ⟨S120x1x1, .f32⟩
  | .hbm, ⟨50, _⟩ => ⟨S120x1, .f32⟩
  | .hbm, ⟨51, _⟩ => ⟨S120, .f32⟩
  | .hbm, ⟨52, _⟩ => ⟨S120x1x1, .f32⟩
  | .hbm, ⟨53, _⟩ => ⟨S120x128x1, .i32⟩
  | .hbm, ⟨54, _⟩ => ⟨S120x128x1, .i32⟩
  | .hbm, ⟨55, _⟩ => ⟨S120x128x1, .i1⟩
  | .hbm, ⟨56, _⟩ => ⟨S120x128x1, .i32⟩
  | .hbm, ⟨57, _⟩ => ⟨S120x128x1, .i32⟩
  | .hbm, ⟨58, _⟩ => ⟨S120x128x1, .i1⟩
  | .hbm, ⟨59, _⟩ => ⟨S_, .f32⟩
  | .hbm, ⟨60, _⟩ => ⟨S_, .f32⟩
  | .hbm, ⟨61, _⟩ => ⟨S120x128x128, .i1⟩
  | .hbm, ⟨62, _⟩ => ⟨S120x128x128, .f32⟩
  | .hbm, ⟨63, _⟩ => ⟨S120x128x128, .f32⟩
  | .hbm, ⟨64, _⟩ => ⟨S_, .f32⟩
  | .hbm, ⟨65, _⟩ => ⟨S120x128, .f32⟩
  | .hbm, ⟨66, _⟩ => ⟨S120x1x128, .f32⟩
  | .hbm, ⟨67, _⟩ => ⟨S_, .f32⟩
  | .hbm, ⟨68, _⟩ => ⟨S_, .f32⟩
  | .hbm, ⟨69, _⟩ => ⟨S120x128x128, .i1⟩
  | .hbm, ⟨70, _⟩ => ⟨S120x128x128, .f32⟩
  | .hbm, ⟨71, _⟩ => ⟨S120x128x128, .f32⟩
  | .hbm, ⟨72, _⟩ => ⟨S_, .f32⟩
  | .hbm, ⟨73, _⟩ => ⟨S120x128, .f32⟩
  | .hbm, ⟨74, _⟩ => ⟨S120x1x128, .f32⟩
  | .hbm, ⟨75, _⟩ => ⟨S120x1x1, .i1⟩
  | .hbm, ⟨76, _⟩ => ⟨S120x1x128, .f32⟩
  | .hbm, ⟨77, _⟩ => ⟨S120x1x128, .f32⟩
  | .hbm, ⟨78, _⟩ => ⟨S120x1x128, .f32⟩
  | .hbm, ⟨79, _⟩ => ⟨S120x1x128, .f32⟩
  | .hbm, ⟨80, _⟩ => ⟨S120x1x128, .f32⟩
  | .hbm, ⟨81, _⟩ => ⟨S120x1x128, .i1⟩
  | .hbm, ⟨82, _⟩ => ⟨S120x1x128, .f32⟩
  | .hbm, ⟨83, _⟩ => ⟨S120x1x128, .f32⟩
  | .hbm, ⟨84, _⟩ => ⟨S120x1x128, .f32⟩
  | .hbm, ⟨85, _⟩ => ⟨S120x1x128, .f32⟩
  | .hbm, ⟨86, _⟩ => ⟨S120x1x128, .f32⟩
  | .hbm, ⟨87, _⟩ => ⟨S120x1x128, .f32⟩
  | .hbm, ⟨88, _⟩ => ⟨S120x1x128, .i1⟩
  | .hbm, ⟨89, _⟩ => ⟨S120x1x128, .f32⟩
  | .hbm, ⟨90, _⟩ => ⟨S120x128x128, .i1⟩
  | .hbm, ⟨91, _⟩ => ⟨S120x128x128, .f32⟩
  | .hbm, ⟨92, _⟩ => ⟨S120x128x128, .f32⟩
  | .hbm, ⟨93, _⟩ => ⟨S120x128x128, .i1⟩
  | .hbm, ⟨94, _⟩ => ⟨S120x128x128, .f32⟩
  | .hbm, ⟨95, _⟩ => ⟨S120x128x128, .f32⟩
  | .hbm, ⟨96, _⟩ => ⟨S_, .i32⟩
  | .hbm, ⟨97, _⟩ => ⟨S_, .i32⟩
  | .hbm, ⟨98, _⟩ => ⟨S120x128x128, .f32⟩
  | .hbm, ⟨99, _⟩ => ⟨S120x128x128, .bf16⟩
  | .hbm, ⟨100, _⟩ => ⟨S120x128x128, .f32⟩
  | .hbm, ⟨101, _⟩ => ⟨S120x128x128, .f32⟩
  | .hbm, ⟨102, _⟩ => ⟨S120x128x128, .bf16⟩
  | .hbm, ⟨103, _⟩ => ⟨S120x128x128, .f32⟩
  | .hbm, ⟨104, _⟩ => ⟨S120x128x128, .f32⟩
  | .hbm, ⟨105, _⟩ => ⟨S120x128x128, .bf16⟩
  | .hbm, ⟨106, _⟩ => ⟨S120x128x256, .bf16⟩
  | .hbm, ⟨107, _⟩ => ⟨S_, .bf16⟩
  | .hbm, ⟨108, _⟩ => ⟨S120x128x128, .bf16⟩
  | .hbm, ⟨109, _⟩ => ⟨S120x128x256, .bf16⟩
  | .hbm, ⟨110, _⟩ => ⟨S120x256x256, .bf16⟩
  | _, _ => ⟨S120x256x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_v17_0 : Ref sig .tc := ⟨.hbm, 22, rfl⟩
abbrev main_v17_1 : Ref sig .tc := ⟨.hbm, 23, rfl⟩
abbrev main_v17_2 : Ref sig .tc := ⟨.hbm, 24, rfl⟩
abbrev main_v17_3 : Ref sig .tc := ⟨.hbm, 25, rfl⟩
abbrev main_v17_4 : Ref sig .tc := ⟨.hbm, 26, rfl⟩
abbrev main_v17_5 : Ref sig .tc := ⟨.hbm, 27, rfl⟩
abbrev main_while0c_c_6 : Ref sig .tc := ⟨.hbm, 28, rfl⟩
abbrev main_while0c_v30 : Ref sig .tc := ⟨.hbm, 29, rfl⟩
abbrev main_while0b_call0_c : Ref sig .tc := ⟨.hbm, 30, rfl⟩
abbrev main_while0b_call0_v0 : Ref sig .tc := ⟨.hbm, 31, rfl⟩
abbrev main_while0b_v30 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_v0 : Ref sig .tc := ⟨.hbm, 35, rfl⟩
abbrev main_while0b_v31 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_call2_v0 : Ref sig .tc := ⟨.hbm, 39, rfl⟩
abbrev main_while0b_v32 : Ref sig .tc := ⟨.hbm, 40, rfl⟩
abbrev main_while0b_v33 : Ref sig .tc := ⟨.hbm, 41, rfl⟩
abbrev main_while0b_v34 : Ref sig .tc := ⟨.hbm, 42, rfl⟩
abbrev main_while0b_v35 : Ref sig .tc := ⟨.hbm, 43, rfl⟩
abbrev main_while0b_v36 : Ref sig .tc := ⟨.hbm, 44, rfl⟩
abbrev main_while0b_v37 : Ref sig .tc := ⟨.hbm, 45, rfl⟩
abbrev main_while0b_v38 : Ref sig .tc := ⟨.hbm, 46, rfl⟩
abbrev main_while0b_v39 : Ref sig .tc := ⟨.hbm, 47, rfl⟩
abbrev main_while0b_v40 : Ref sig .tc := ⟨.hbm, 48, rfl⟩
abbrev main_while0b_v41 : Ref sig .tc := ⟨.hbm, 49, rfl⟩
abbrev main_while0b_v42 : Ref sig .tc := ⟨.hbm, 50, rfl⟩
abbrev main_while0b_v43 : Ref sig .tc := ⟨.hbm, 51, rfl⟩
abbrev main_while0b_v44 : Ref sig .tc := ⟨.hbm, 52, rfl⟩
abbrev main_while0b_v45 : Ref sig .tc := ⟨.hbm, 53, rfl⟩
abbrev main_while0b_v46 : Ref sig .tc := ⟨.hbm, 54, rfl⟩
abbrev main_while0b_v47 : Ref sig .tc := ⟨.hbm, 55, rfl⟩
abbrev main_while0b_v48 : Ref sig .tc := ⟨.hbm, 56, rfl⟩
abbrev main_while0b_v49 : Ref sig .tc := ⟨.hbm, 57, rfl⟩
abbrev main_while0b_v50 : Ref sig .tc := ⟨.hbm, 58, rfl⟩
abbrev main_while0b_cst_6 : Ref sig .tc := ⟨.hbm, 59, rfl⟩
abbrev main_while0b_call3_v0 : Ref sig .tc := ⟨.hbm, 60, rfl⟩
abbrev main_while0b_call3_v1 : Ref sig .tc := ⟨.hbm, 61, rfl⟩
abbrev main_while0b_call3_v2 : Ref sig .tc := ⟨.hbm, 62, rfl⟩
abbrev main_while0b_v51 : Ref sig .tc := ⟨.hbm, 63, rfl⟩
abbrev main_while0b_cst_7 : Ref sig .tc := ⟨.hbm, 64, rfl⟩
abbrev main_while0b_v52 : Ref sig .tc := ⟨.hbm, 65, rfl⟩
abbrev main_while0b_v53 : Ref sig .tc := ⟨.hbm, 66, rfl⟩
abbrev main_while0b_cst_8 : Ref sig .tc := ⟨.hbm, 67, rfl⟩
abbrev main_while0b_call4_v0 : Ref sig .tc := ⟨.hbm, 68, rfl⟩
abbrev main_while0b_call4_v1 : Ref sig .tc := ⟨.hbm, 69, rfl⟩
abbrev main_while0b_call4_v2 : Ref sig .tc := ⟨.hbm, 70, rfl⟩
abbrev main_while0b_v54 : Ref sig .tc := ⟨.hbm, 71, rfl⟩
abbrev main_while0b_cst_9 : Ref sig .tc := ⟨.hbm, 72, rfl⟩
abbrev main_while0b_v55 : Ref sig .tc := ⟨.hbm, 73, rfl⟩
abbrev main_while0b_v56 : Ref sig .tc := ⟨.hbm, 74, rfl⟩
abbrev main_while0b_v57 : Ref sig .tc := ⟨.hbm, 75, rfl⟩
abbrev main_while0b_v58 : Ref sig .tc := ⟨.hbm, 76, rfl⟩
abbrev main_while0b_v59 : Ref sig .tc := ⟨.hbm, 77, rfl⟩
abbrev main_while0b_v60 : Ref sig .tc := ⟨.hbm, 78, rfl⟩
abbrev main_while0b_v61 : Ref sig .tc := ⟨.hbm, 79, rfl⟩
abbrev main_while0b_v62 : Ref sig .tc := ⟨.hbm, 80, rfl⟩
abbrev main_while0b_call5_v0 : Ref sig .tc := ⟨.hbm, 81, rfl⟩
abbrev main_while0b_v63 : Ref sig .tc := ⟨.hbm, 82, rfl⟩
abbrev main_while0b_v64 : Ref sig .tc := ⟨.hbm, 83, rfl⟩
abbrev main_while0b_v65 : Ref sig .tc := ⟨.hbm, 84, rfl⟩
abbrev main_while0b_v66 : Ref sig .tc := ⟨.hbm, 85, rfl⟩
abbrev main_while0b_v67 : Ref sig .tc := ⟨.hbm, 86, rfl⟩
abbrev main_while0b_v68 : Ref sig .tc := ⟨.hbm, 87, rfl⟩
abbrev main_while0b_call6_v0 : Ref sig .tc := ⟨.hbm, 88, rfl⟩
abbrev main_while0b_v69 : Ref sig .tc := ⟨.hbm, 89, rfl⟩
abbrev main_while0b_call7_v0 : Ref sig .tc := ⟨.hbm, 90, rfl⟩
abbrev main_while0b_call7_v1 : Ref sig .tc := ⟨.hbm, 91, rfl⟩
abbrev main_while0b_v70 : Ref sig .tc := ⟨.hbm, 92, rfl⟩
abbrev main_while0b_call8_v0 : Ref sig .tc := ⟨.hbm, 93, rfl⟩
abbrev main_while0b_call8_v1 : Ref sig .tc := ⟨.hbm, 94, rfl⟩
abbrev main_while0b_v71 : Ref sig .tc := ⟨.hbm, 95, rfl⟩
abbrev main_while0b_c_10 : Ref sig .tc := ⟨.hbm, 96, rfl⟩
abbrev main_while0b_v72 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_cst : Ref sig .tc := ⟨.hbm, 107, rfl⟩
abbrev main_v27 : Ref sig .tc := ⟨.hbm, 108, rfl⟩
abbrev main_v28 : Ref sig .tc := ⟨.hbm, 109, rfl⟩
abbrev main_v29 : Ref sig .tc := ⟨.hbm, 110, rfl⟩

abbrev nD : Nat := 1
abbrev τ : Topo := Topo.v7x

variable {F : FTy → Type} [FloatOps F]

abbrev main_while0_count : Scf.Loop 32 := ⟨0#32, 256#32, 1#32⟩
-- ==== Proof.LinearValue.lean ====
/-
  The tiled product of fp8 codes with its row and column scales against the product of the whole arrays, over the
  extended reals: what one block of the kernel computes, what its result array holds, what the reference's holds.
-/
module

public import proofs.«01_k».proof.Defs
public import proofs.«01_k».proof.Proof.Gen.KernelIdeal.Value
public import proofs.«01_k».proof.Proof.Gen.ReferenceIdeal.Value
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Linear

/-- Row `r`, column `c` of the scaled product: the row of codes times the column of weights, times the row's scale,
    times the column's scale. -/
def at' (a : (⟨2, ![4096, 15360]⟩ : Shape).Idx → EReal) (b : (⟨2, ![15360, 5120]⟩ : Shape).Idx → EReal)
    (sx : (⟨2, ![4096, 128]⟩ : Shape).Idx → EReal) (sw : (⟨1, ![5120]⟩ : Shape).Idx → EReal) (r : Fin 4096) (c : Fin 5120) : EReal :=
  (∑ k : Fin 15360, a (ix2 r k) * b (ix2 k c)) * sx (ix2 r 0) * sw (ix1 c)

/-- The same entry from a row, a column and two scales read elsewhere. -/
theorem at'_of {a : (⟨2, ![4096, 15360]⟩ : Shape).Idx → EReal} {b : (⟨2, ![15360, 5120]⟩ : Shape).Idx → EReal}
    {sx : (⟨2, ![4096, 128]⟩ : Shape).Idx → EReal} {sw : (⟨1, ![5120]⟩ : Shape).Idx → EReal} {r : Fin 4096} {c : Fin 5120}
    {A B : Fin 15360 → EReal} {x y : EReal} (hA : ∀ k, A k = a (ix2 r k)) (hB : ∀ k, B k = b (ix2 k c))
    (hx : x = sx (ix2 r 0)) (hy : y = sw (ix1 c)) : (∑ k, A k * B k) * x * y = at' a b sx sw r c := by
  unfold at'
  rw [hx, hy, Finset.sum_congr rfl fun k _ => by rw [hA k, hB k]]

end Cert.Linear

namespace Cert.KernelIdeal.Lin

open Cert.KernelIdeal Cert.KernelIdeal.Gen

variable (m : (ℓ : Loc nD τ sig) → Buf (Elt Ideal) ℓ) (ρ : Dev nD → PrngReg)

/-- What one grid point computes, read at an index of its block. -/
theorem pay_apply (a : Vec Ideal S1024x15360 .fp8e4m3) (b : Vec Ideal S15360x512 .fp8e4m3) (sx : Vec Ideal S1024x1 .f32)
    (sw : Vec Ideal S1x512 .f32) (r : Fin 1024) (c : Fin 512) :
    k0_pay1 a b sx sw (ix2 r c)
      = (∑ k : Fin 15360, a (ix2 r k) * b (ix2 k c)) * sx (ix2 r 0) * sw (ix2 0 c) := by
  pointwise [k0_pay1]

/-- The result of a point's body from the four blocks it loads, at an index. -/
theorem out_apply (a : Vec Ideal S1024x15360 .fp8e4m3) (b : Vec Ideal S15360x512 .fp8e4m3) (sx : Vec Ideal S1024x128 .f32)
    (sw : Vec Ideal S1x512 .f32) (r : Fin 1024) (c : Fin 512) :
    out0_4 a b sx sw (ix2 r c)
      = (∑ k : Fin 15360, a (ix2 r k) * b (ix2 k c)) * sx (ix2 r 0) * sw (ix2 0 c) := by
  have hz : (![0, 0] : Fin 2 → Nat) = fun _ => 0 := funext fun a => by fin_cases a <;> rfl
  unfold out0_4
  rw [View.canon_unit_zero hz, View.ld_unit_zero (S := S1024x15360) hz, View.ld_unit_zero (S := S15360x512) hz,
    View.ld_unit_zero (S := S1x512) hz, pay_apply]
  pointwise

/-- Where the windows stand at point `t`: row block `t / 10`, column block `t % 10`. -/
theorem idx (t : Fin cfg0.N) :
    win0_0.index t 0 = t.val / 10 ∧ win0_0.index t 1 = 0 ∧ win0_1.index t 0 = 0 ∧ win0_1.index t 1 = t.val % 10
      ∧ win0_2.index t 0 = t.val / 10 ∧ win0_2.index t 1 = 0 ∧ win0_3.index t 0 = 0 ∧ win0_3.index t 1 = t.val % 10
      ∧ win0_4.index t 0 = t.val / 10 ∧ win0_4.index t 1 = t.val % 10 :=
  (by decide +kernel : ∀ t : Fin grid0.N, win0_0.index t 0 = t.val / 10 ∧ win0_0.index t 1 = 0 ∧ win0_1.index t 0 = 0 ∧ win0_1.index t 1 = t.val % 10
      ∧ win0_2.index t 0 = t.val / 10 ∧ win0_2.index t 1 = 0 ∧ win0_3.index t 0 = 0 ∧ win0_3.index t 1 = t.val % 10
      ∧ win0_4.index t 0 = t.val / 10 ∧ win0_4.index t 1 = t.val % 10) t

theorem N_eq : cfg0.N = 40 := N_0

/-- The block of codes at point `t`, at an index of the array. -/
theorem blk0 (c : Dev nD) (t : Fin cfg0.N) (r : Fin 1024) (k : Fin 15360) (h : 1024 * (t.val / 10) + r.val < 4096) :
    iblk m c 0 t (ix2 r k) = m ((c : Thread nD τ).loc main_arg0) (ix2 ⟨1024 * (t.val / 10) + r.val, h⟩ k) := by
  have hi := idx t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 10) + r.val; rw [hi.1]; omega
  | ⟨1, _⟩ => show win0_0.index t 1 * 15360 + 1 * k.val = k.val; rw [hi.2.1]; omega

/-- The block of weights at point `t`. -/
theorem blk1 (c : Dev nD) (t : Fin cfg0.N) (k : Fin 15360) (l : Fin 512) (h : 512 * (t.val % 10) + l.val < 5120) :
    iblk m c 1 t (ix2 k l) = m ((c : Thread nD τ).loc main_arg1) (ix2 k ⟨512 * (t.val % 10) + l.val, h⟩) := by
  have hi := idx t
  unfold iblk
  rw [View.read_apply]
  show V m c main_arg1 _ = _
  rw [V_main_arg1]
  congr 1
  funext a
  apply Fin.ext
  match a with
  | ⟨0, _⟩ => show win0_1.index t 0 * 15360 + 1 * k.val = k.val; rw [hi.2.2.1]; omega
  | ⟨1, _⟩ => show win0_1.index t 1 * 512 + 1 * l.val = 512 * (t.val % 10) + l.val; rw [hi.2.2.2.1]; omega

/-- The block of row scales at point `t`. -/
theorem blk2 (c : Dev nD) (t : Fin cfg0.N) (r : Fin 1024) (k : Fin 128) (h : 1024 * (t.val / 10) + r.val < 4096) :
    iblk m c 2 t (ix2 r k) = m ((c : Thread nD τ).loc main_arg2) (ix2 ⟨1024 * (t.val / 10) + r.val, h⟩ k) := by
  have hi := idx t
  unfold iblk
  rw [View.read_apply]
  show V m c main_arg2 _ = _
  rw [V_main_arg2]
  congr 1
  funext a
  apply Fin.ext
  match a with
  | ⟨0, _⟩ => show win0_2.index t 0 * 1024 + 1 * r.val = 1024 * (t.val / 10) + r.val; rw [hi.2.2.2.2.1]; omega
  | ⟨1, _⟩ => show win0_2.index t 1 * 128 + 1 * k.val = k.val; rw [hi.2.2.2.2.2.1]; omega

/-- The column scales as the region finds them: the argument as one row. -/
theorem V_row (c : Dev nD) (l : Fin 5120) :
    V m c main_v0 (ix2 0 l) = m ((c : Thread nD τ).loc main_arg3) (ix1 l) := by
  have h : ∀ x : Vec Ideal S5120 .f32, shapeCast S1x5120 x shapeCasts_S5120_S1x5120 (ix2 0 l) = x (ix1 l) := by
    intro x
    pointwise
  exact h (m ((c : Thread nD τ).loc main_arg3))

/-- The block of column scales at point `t`. -/
theorem blk3 (c : Dev nD) (t : Fin cfg0.N) (l : Fin 512) (h : 512 * (t.val % 10) + l.val < 5120) :
    iblk m c 3 t (ix2 0 l) = m ((c : Thread nD τ).loc main_arg3) (ix1 ⟨512 * (t.val % 10) + l.val, h⟩) := by
  have hi := idx t
  refine Eq.trans ?_ (V_row m c _)
  unfold iblk
  rw [View.read_apply]
  show V m c main_v0 _ = _
  congr 1
  funext a
  apply Fin.ext
  match a with
  | ⟨0, _⟩ => show win0_3.index t 0 * 1 + 1 * 0 = 0; rw [hi.2.2.2.2.2.2.1]
  | ⟨1, _⟩ => show win0_3.index t 1 * 512 + 1 * l.val = 512 * (t.val % 10) + l.val; rw [hi.2.2.2.2.2.2.2.1]; omega

/-- The whole result: the scaled product of the argument arrays. -/
def result (c : Dev nD) : Buf (Elt Ideal) ((c : Thread nD τ).loc main_v1) := fun i =>
  Cert.Linear.at' (m ((c : Thread nD τ).loc main_arg0)) (m ((c : Thread nD τ).loc main_arg1))
    (m ((c : Thread nD τ).loc main_arg2)) (m ((c : Thread nD τ).loc main_arg3)) (i 0) (i 1)

/-- Point `t` writes back its block of the whole result. -/
theorem flushed_eq (c : Dev nD) (t : Fin cfg0.N) :
    (dats m 0 c).flushed 4 t = ((cfg0.win 4).blk t).view.read (Elt Ideal) (result m c) := by
  have hi := idx t
  have ht : t.val < 40 := t.isLt.trans_eq N_eq
  rw [Value.flushed4]
  show out0_4 _ _ _ _ = _
  funext j
  obtain ⟨r, l, rfl⟩ : ∃ (r : Fin 1024) (l : Fin 512), j = ix2 r l := ⟨j 0, j 1, eq_ix2 j⟩
  have hr : 1024 * (t.val / 10) + r.val < 4096 := by omega
  have hl : 512 * (t.val % 10) + l.val < 5120 := by omega
  rw [out_apply, View.read_apply]
  have e : ((cfg0.win 4).blk t).view.emb (ix2 r l) = ix2 ⟨1024 * (t.val / 10) + r.val, hr⟩ ⟨512 * (t.val % 10) + l.val, hl⟩ := by
    funext a
    apply Fin.ext
    match a with
    | ⟨0, _⟩ => show win0_4.index t 0 * 1024 + 1 * r.val = _; rw [hi.2.2.2.2.2.2.2.2.1]; show _ = 1024 * (t.val / 10) + r.val; omega
    | ⟨1, _⟩ => show win0_4.index t 1 * 512 + 1 * l.val = _; rw [hi.2.2.2.2.2.2.2.2.2]; show _ = 512 * (t.val % 10) + l.val; omega
  rw [e]
  exact Cert.Linear.at'_of (fun k => blk0 m c t r k hr) (fun k => blk1 m c t k l hl) (blk2 m c t r 0 hr) (blk3 m c t l hl)

/-- An index of the result array is in the block of the point that covers it. -/
theorem cover (i : S4096x5120.Idx) : ∃ t : Fin cfg0.N, (cfg0.win 4).flush t = true ∧ i ∈ ((cfg0.win 4).blk t).view.set := by
  have h0 : (i 0 : Nat) < 4096 := (i 0).isLt
  have h1 : (i 1 : Nat) < 5120 := (i 1).isLt
  have hN : cfg0.N = 40 := N_eq
  have ht : 10 * ((i 0 : Nat) / 1024) + (i 1 : Nat) / 512 < cfg0.N := by omega
  refine ⟨⟨_, ht⟩, flush0_4 _, ?_⟩
  have hi := idx ⟨_, ht⟩
  show i ∈ ((View.whole main_v1).slice (win0_4.rect ⟨_, ht⟩)).set
  rw [View.set_slice_whole, Rect.mem_set_unit]
  intro a
  match a with
  | ⟨0, _⟩ =>
    show win0_4.index ⟨_, ht⟩ 0 * 1024 ≤ (i 0 : Nat) ∧ (i 0 : Nat) < win0_4.index ⟨_, ht⟩ 0 * 1024 + 1024
    rw [hi.2.2.2.2.2.2.2.2.1]; dsimp only; omega
  | ⟨1, _⟩ =>
    show win0_4.index ⟨_, ht⟩ 1 * 512 ≤ (i 1 : Nat) ∧ (i 1 : Nat) < win0_4.index ⟨_, ht⟩ 1 * 512 + 512
    rw [hi.2.2.2.2.2.2.2.2.2]; dsimp only; omega

/-- So the result array ends holding the scaled product of the arguments. -/
theorem final (c : Dev nD) : (dats m 0 c).arrAt 4 cfg0.N = result m c :=
  (dats m 0 c).arrAt_eq_of_cover 4 (result m c) (fun t _ => flushed_eq m c t) cover

end Cert.KernelIdeal.Lin

namespace Cert.ReferenceIdeal.Lin

open Cert.ReferenceIdeal Cert.ReferenceIdeal.Gen

variable (m : (ℓ : Loc nD τ sig) → Buf (Elt Ideal) ℓ) (ρ : Dev nD → PrngReg)

/-- What the reference's one body computes, read at an index. -/
theorem out_apply (a : Vec Ideal S4096x15360 .fp8e4m3) (b : Vec Ideal S15360x5120 .fp8e4m3) (sx : Vec Ideal S4096x128 .f32)
    (sw : Vec Ideal S1x5120 .f32) (r : Fin 4096) (c : Fin 5120) :
    out0_4 a b sx sw (ix2 r c)
      = (∑ k : Fin 15360, a (ix2 r k) * b (ix2 k c)) * sx (ix2 r 0) * sw (ix2 0 c) := by
  have hz : (![0, 0] : Fin 2 → Nat) = fun _ => 0 := funext fun a => by fin_cases a <;> rfl
  unfold out0_4
  rw [View.canon_unit_zero hz, View.ld_unit_zero (S := S4096x15360) hz, View.ld_unit_zero (S := S15360x5120) hz,
    View.ld_unit_zero (S := S1x5120) hz]
  pointwise [k0_pay1]

/-- The one grid point. -/
def t₀ : Fin cfg0.N := ⟨0, by decide⟩

/-- The column scales as the region finds them: the argument as one row. -/
theorem V_row (c : Dev nD) (l : Fin 5120) :
    V m c main_v0 (ix2 0 l) = m ((c : Thread nD τ).loc main_arg3) (ix1 l) := by
  have h : ∀ x : Vec Ideal S5120 .f32, shapeCast S1x5120 x shapeCasts_S5120_S1x5120 (ix2 0 l) = x (ix1 l) := by
    intro x
    pointwise
  exact h (m ((c : Thread nD τ).loc main_arg3))

/-- The whole result: the scaled product of the argument arrays. -/
def result (c : Dev nD) : Buf (Elt Ideal) ((c : Thread nD τ).loc main_v1) := fun i =>
  Cert.Linear.at' (m ((c : Thread nD τ).loc main_arg0)) (m ((c : Thread nD τ).loc main_arg1))
    (m ((c : Thread nD τ).loc main_arg2)) (m ((c : Thread nD τ).loc main_arg3)) (i 0) (i 1)

/-- The result array ends holding the scaled product of the arguments. -/
theorem final (c : Dev nD) : (dats m 0 c).arrAt 4 cfg0.N = result m c := by
  have ho := Value.blocks4 m c t₀ (by decide)
  have hz4 : (fun a => (win0_4.index t₀) a * main_v1.ty.shape.size a) = fun _ => 0 :=
    funext fun a => by fin_cases a <;> decide
  rw [Memref.read_access_unit_zero (Elt Ideal) main_v1 hz4 (fun a => by fin_cases a <;> decide)] at ho
  rw [ho, Value.flushed4]
  show out0_4 _ _ _ _ = _
  have hz0 : (fun a => (win0_0.index t₀) a * main_arg0.ty.shape.size a) = fun _ => 0 :=
    funext fun a => by fin_cases a <;> decide
  have e0 : iblk m c 0 t₀ = m ((c : Thread nD τ).loc main_arg0) :=
    (Memref.read_access_unit_zero (Elt Ideal) main_arg0 hz0 (fun a => by fin_cases a <;> decide) _).trans (V_main_arg0 m c)
  have hz1 : (fun a => (win0_1.index t₀) a * main_arg1.ty.shape.size a) = fun _ => 0 :=
    funext fun a => by fin_cases a <;> decide
  have e1 : iblk m c 1 t₀ = m ((c : Thread nD τ).loc main_arg1) :=
    (Memref.read_access_unit_zero (Elt Ideal) main_arg1 hz1 (fun a => by fin_cases a <;> decide) _).trans (V_main_arg1 m c)
  have hz2 : (fun a => (win0_2.index t₀) a * main_arg2.ty.shape.size a) = fun _ => 0 :=
    funext fun a => by fin_cases a <;> decide
  have e2 : iblk m c 2 t₀ = m ((c : Thread nD τ).loc main_arg2) :=
    (Memref.read_access_unit_zero (Elt Ideal) main_arg2 hz2 (fun a => by fin_cases a <;> decide) _).trans (V_main_arg2 m c)
  have hz3 : (fun a => (win0_3.index t₀) a * main_v0.ty.shape.size a) = fun _ => 0 :=
    funext fun a => by fin_cases a <;> decide
  have e3 : iblk m c 3 t₀ = V m c main_v0 :=
    Memref.read_access_unit_zero (Elt Ideal) main_v0 hz3 (fun a => by fin_cases a <;> decide) _
  rw [e0, e1, e2, e3]
  funext j
  obtain ⟨r, l, rfl⟩ : ∃ (r : Fin 4096) (l : Fin 5120), j = ix2 r l := ⟨j 0, j 1, eq_ix2 j⟩
  rw [out_apply, V_row]
  rfl

end Cert.ReferenceIdeal.Lin

namespace Cert.Proof.LinearClaim

/-- The tiled kernel and the whole-array product end with equal results, over the extended reals. -/
theorem algebraic : Cert.algebraic_KernelIdeal_ReferenceIdeal := by
  intro m ρ m' ρ' _ hagree
  refine ⟨fun c => Cert.KernelIdeal.Lin.result m c, ?_, ?_⟩
  · exact (θ_run Cert.KernelIdeal.defs _ _).mono
      (fun _ h c => ⟨(h c).1.trans (Cert.KernelIdeal.Lin.final m c), (h c).2⟩)
      (Cert.KernelIdeal.Value.run_blocks (F := Ideal) m ρ)
  · have e (c : Dev Cert.KernelIdeal.nD) : Cert.ReferenceIdeal.Lin.result m' c = Cert.KernelIdeal.Lin.result m c := by
      obtain ⟨h0, h1, h2, h3⟩ := hagree c
      unfold Cert.ReferenceIdeal.Lin.result Cert.KernelIdeal.Lin.result
      rw [h0, h1, h2, h3]
      rfl
    exact (θ_run Cert.ReferenceIdeal.defs _ _).mono
      (fun _ h c => ⟨((h c).1.trans (Cert.ReferenceIdeal.Lin.final m' c)).trans (e c), (h c).2⟩)
      (Cert.ReferenceIdeal.Value.run_blocks (F := Ideal) m' ρ')

end Cert.Proof.LinearClaim

end
-- ==== Proof.RotateLoop.lean ====
/- The rotation kernel's body as three uniform loops over the 120 column blocks.

   The kernel's body is printed with its loop over the column blocks unrolled. Here the same operations are written as
   loops, for any machine, any signature and any values: `rotStep` rotates one block, `quantStep` quantises one block,
   `finish` turns the running maximum into the two scales; `bodyFirst`, `bodyMiddle` and `bodyLast` are the three
   cases of the body (first grid point, points in between, last point). `Proof/RotateWp.lean` proves what they leave
   in each buffer, by induction on the number of blocks; the two certificates over `Rotate` and `RotateIdeal` show
   that the printed bodies are these. -/
module

public import Idealize.ShloMosaic.Lib.Pipeline.FrameBody
public import Idealize.ShloMosaic.Lib.Ring
public import Idealize.ShloMosaic.Lib.Tactic

@[expose] public section

noncomputable section

namespace Cert.Rotation

open Idealize.ShloMosaic Idealize.SL.Sem

abbrev S256x15360 : Shape := ⟨2, ![256, 15360]⟩
abbrev S120x256x256 : Shape := ⟨3, ![120, 256, 256]⟩
abbrev S1x256x256 : Shape := ⟨3, ![1, 256, 256]⟩
abbrev S256x256 : Shape := ⟨2, ![256, 256]⟩
abbrev S256x128 : Shape := ⟨2, ![256, 128]⟩
abbrev S128x256 : Shape := ⟨2, ![128, 256]⟩
abbrev S1x1x256 : Shape := ⟨3, ![1, 1, 256]⟩
abbrev S1x256 : Shape := ⟨2, ![1, 256]⟩
abbrev S256x1 : Shape := ⟨2, ![256, 1]⟩
abbrev S256 : Shape := ⟨1, ![256]⟩

section Values

variable {F : FTy → Type} [FloatOps F]

/-- The contraction of a `256×256` product. -/
def dot : DotDims S256x256 S256x256 S256x256 where
  lhsContracting := [1]
  rhsContracting := [0]
  lhsNonContracting := [0]
  rhsNonContracting := [1]
  lhsBatch := []
  rhsBatch := []
  wf := by decide

theorem concatenates : Shape.Concatenates [S256x128, S256x128] S256x256 1 := by decide

/-- One rotated block: the block beside itself times the packed `256×256` matrix, the two halves added. -/
def rot (x : Vec F S256x128 .bf16) (r : Vec F S1x256x256 .bf16) : FVec F S256x128 .f32 :=
  addf
    (extractStridedSlice S256x128 ![0, 0]
      (matmul dot none (concatenate S256x256 1 [⟨S256x128, x⟩, ⟨S256x128, x⟩] concatenates)
        (shapeCast S256x256 r (by decide) : FVec F S256x256 .bf16) (constant S256x256 .f32 0x00000000#32)) (by decide))
    (extractStridedSlice S256x128 ![0, 128]
      (matmul dot none (concatenate S256x256 1 [⟨S256x128, x⟩, ⟨S256x128, x⟩] concatenates)
        (shapeCast S256x256 r (by decide) : FVec F S256x256 .bf16) (constant S256x256 .f32 0x00000000#32)) (by decide))

/-- One quantised block: times the inverse scale, clipped, cast. -/
def quant (v inv : Vec F S256x128 .f32) : FVec F S256x128 .fp8e4m3 :=
  truncf .fp8e4m3
    (minimumf (broadcast S256x128 (Scalar.ofBits .f32 0x43E00000#32))
      (maximumf (broadcast S256x128 (Scalar.ofBits .f32 0xC3E00000#32)) (mulf v inv))) (by decide)

/-- A row's greatest absolute value over 448. -/
def amaxQ (a : FVec F S256x128 .f32) : FVec F S256x1 .f32 :=
  mulf (shapeCast S256x1 (multiReduction .maximumf [1] S256 a 0xFF800000#32 (by decide) (.inl rfl) rfl) (by decide))
    (broadcast S256x1 (Scalar.ofBits .f32 0x3B124925#32))

/-- One bit of the exponent field of `q`, tried: kept when `q` is at least the power of two it makes. -/
def bitStep (q : FVec F S256x1 .f32) (eb : IVec S256x1 32) (bit : BitVec 32) : IVec S256x1 32 :=
  select (cmpf .oge q (bitcastToFloat .f32 (shli (addi eb (broadcast S256x1 bit)) (broadcast S256x1 23#32))))
    (addi eb (broadcast S256x1 bit)) eb

/-- The exponent field of `q`, its eight bits from the greatest down. -/
def expBits (q : FVec F S256x1 .f32) : IVec S256x1 32 :=
  bitStep q (bitStep q (bitStep q (bitStep q (bitStep q (bitStep q (bitStep q (bitStep q
    (broadcast S256x1 0#32) 128#32) 64#32) 32#32) 16#32) 8#32) 4#32) 2#32) 1#32

/-- The field with 253, 254 and 255 all read as 255. -/
def expField (q : FVec F S256x1 .f32) : IVec S256x1 32 :=
  select (cmpi .sge (expBits q) (broadcast S256x1 253#32)) (broadcast S256x1 255#32) (expBits q)

/-- The scale's exponent: 0 at the two ends of the field, else the field less 126. -/
def expo (q : FVec F S256x1 .f32) : IVec S256x1 32 :=
  select (ori (cmpi .eq (expField q) (broadcast S256x1 0#32)) (cmpi .eq (expField q) (broadcast S256x1 255#32)))
    (broadcast S256x1 0#32) (subi (expField q) (broadcast S256x1 126#32))

/-- The scale, two to the exponent. -/
def scaleOf (a : FVec F S256x128 .f32) : FVec F S256x1 .f32 :=
  bitcastToFloat .f32 (shli (addi (expo (amaxQ a)) (broadcast S256x1 127#32)) (broadcast S256x1 23#32))

/-- The inverse scale over the lanes. -/
def invTile (a : FVec F S256x128 .f32) : FVec F S256x128 .f32 :=
  shapeCast S256x128 (broadcastTo S256x128 (shapeCast S256x1
    (bitcastToFloat .f32 (shli (subi (broadcast S256x1 127#32) (expo (amaxQ a))) (broadcast S256x1 23#32)) : FVec F S256x1 .f32)
    (by decide)) (by decide)) (by decide)

/-- The scale over the lanes. -/
def colTile (a : FVec F S256x128 .f32) : FVec F S256x128 .f32 :=
  broadcastTo S256x128 (shapeCast S256x1 (scaleOf a) (by decide)) (by decide)

/-- The scales as one row. -/
def rowTile (a : FVec F S256x128 .f32) : FVec F S1x1x256 .f32 :=
  shapeCast S1x1x256 (extractStridedSlice S1x256 ![0, 0] (transpose S128x256 [1, 0] (colTile a) (by decide)) (by decide))
    (by decide)

end Values

section Programs

variable {nD : Nat} {τ : Topo} {sig : RefSig} {Λ : Labels} {F : FTy → Type} [FloatOps F]

theorem inbX (n : ℕ) (h : n < 120) : ∀ a, (![0, 128 * n] : Fin 2 → ℕ) a + S256x128.size a ≤ S256x15360.size a := by
  intro a; match a with
  | ⟨0, _⟩ => show 0 + 256 ≤ 256; omega
  | ⟨1, _⟩ => show 128 * n + 128 ≤ 15360; omega

theorem inbR (n : ℕ) (h : n < 120) : ∀ a, (![n, 0, 0] : Fin 3 → ℕ) a + S1x256x256.size a ≤ S120x256x256.size a := by
  intro a; match a with
  | ⟨0, _⟩ => show n + 1 ≤ 120; omega
  | ⟨1, _⟩ => show 0 + 256 ≤ 256; omega
  | ⟨2, _⟩ => show 0 + 256 ≤ 256; omega

/-- Columns `128 n … 128 n + 127`. -/
abbrev blkX (n : ℕ) (h : n < 120) : Rect S256x15360 := Rect.unit (s := S256x15360) ![0, 128 * n] S256x128.size (inbX n h)

/-- Matrix `n`. -/
abbrev blkR (n : ℕ) (h : n < 120) : Rect S120x256x256 := Rect.unit (s := S120x256x256) ![n, 0, 0] S1x256x256.size (inbR n h)

theorem packed (n : ℕ) (h : n < 120) : (blkX n h).PackedRows (EltTy.packing .fp8e4m3) :=
  Or.inr ⟨by decide, rfl, Or.inl ⟨⟨0, rfl⟩, ⟨64, rfl⟩⟩⟩

theorem posX : 0 < S256x128.numel := by decide
theorem posR : 0 < S1x256x256.numel := by decide
theorem posRow : 0 < S1x1x256.numel := by decide

theorem inbT : ∀ a, (![0, 0] : Fin 2 → ℕ) a + S256x128.size a ≤ S256x128.size a := by decide
theorem inbRow : ∀ a, (![0, 0, 0] : Fin 3 → ℕ) a + S1x1x256.size a ≤ S1x1x256.size a := by decide

/-- A whole `256×128` tile, and a whole row. -/
abbrev tile : Rect S256x128 := Rect.unit (s := S256x128) ![0, 0] S256x128.size inbT
abbrev rowR : Rect S1x1x256 := Rect.unit (s := S1x1x256) ![0, 0, 0] S1x1x256.size inbRow

/-- Block `n` is quantised: read from the rotated rows, scaled, stored as codes. -/
def quantStep (codes : Memref sig .tc .vmem S256x15360 .fp8e4m3) (hc : codes.IsWhole) (xr : Memref sig .tc .vmem S256x15360 .f32)
    (inv : Vec F S256x128 .f32) (n : ℕ) (h : n < 120) : Prog (TpuEff nD τ sig (Elt F) Λ .tc) PUnit := do
  let v : Vec F S256x128 .f32 ← Prog.lift (.load xr (blkX n h).toLoadRect (View.loadsAt_vmem posX))
  let _ : Vec F S256x128 .fp8e4m3 ← Prog.lift (.load codes (blkX n h).toLoadRect (View.loadsAt_vmem posX))
  Prog.lift (.store codes (blkX n h) (quant v inv) Finset.univ
    (View.stores_vmem posX (hc.storeExact_slice rfl _ (packed n h)) (fun _ => rfl)) (.inl rfl))

/-- Block `n` is rotated: read, multiplied, stored among the rotated rows; its absolute values are returned. -/
def rotStep (x : Memref sig .tc .vmem S256x15360 .bf16) (r : Memref sig .tc .vmem S120x256x256 .bf16)
    (xr : Memref sig .tc .vmem S256x15360 .f32) (n : ℕ) (h : n < 120) :
    Prog (TpuEff nD τ sig (Elt F) Λ .tc) (FVec F S256x128 .f32) := do
  let xb : Vec F S256x128 .bf16 ← Prog.lift (.load x (blkX n h).toLoadRect (View.loadsAt_vmem posX))
  let rb : Vec F S1x256x256 .bf16 ← Prog.lift (.load r (blkR n h).toLoadRect (View.loadsAt_vmem posR))
  let _ : Vec F S256x128 .f32 ← Prog.lift (.load xr (blkX n h).toLoadRect (View.loadsAt_vmem posX))
  Prog.lift (.store xr (blkX n h) (shapeCast S256x128 (rot xb rb) (by decide) : FVec F S256x128 .f32) Finset.univ
    (View.stores_vmem_bits_univ posX rfl) (.inl rfl))
  pure (absf (rot xb rb))

/-- Blocks `n … n + k - 1` are rotated, the running maximum updated. -/
def rotLoop (x : Memref sig .tc .vmem S256x15360 .bf16) (r : Memref sig .tc .vmem S120x256x256 .bf16)
    (xr : Memref sig .tc .vmem S256x15360 .f32) :
    (k n : ℕ) → n + k ≤ 120 → FVec F S256x128 .f32 → Prog (TpuEff nD τ sig (Elt F) Λ .tc) (FVec F S256x128 .f32)
  | 0, _, _, a => pure a
  | k + 1, n, h, a => do
    let v ← rotStep x r xr n (by omega)
    rotLoop x r xr k (n + 1) (by omega) (maximumf a v)

/-- Blocks `n … n + k - 1` are quantised, each then rotated anew. -/
def bothLoop (x : Memref sig .tc .vmem S256x15360 .bf16) (r : Memref sig .tc .vmem S120x256x256 .bf16)
    (codes : Memref sig .tc .vmem S256x15360 .fp8e4m3) (hc : codes.IsWhole)
    (xr : Memref sig .tc .vmem S256x15360 .f32) (inv : Vec F S256x128 .f32) :
    (k n : ℕ) → n + k ≤ 120 → FVec F S256x128 .f32 → Prog (TpuEff nD τ sig (Elt F) Λ .tc) (FVec F S256x128 .f32)
  | 0, _, _, a => pure a
  | k + 1, n, h, a => do
    quantStep codes hc xr inv n (by omega)
    let v ← rotStep x r xr n (by omega)
    bothLoop x r codes hc xr inv k (n + 1) (by omega) (maximumf a v)

/-- Blocks `n … n + k - 1` are quantised. -/
def quantLoop (codes : Memref sig .tc .vmem S256x15360 .fp8e4m3) (hc : codes.IsWhole)
    (xr : Memref sig .tc .vmem S256x15360 .f32) (inv : Vec F S256x128 .f32) :
    (k n : ℕ) → n + k ≤ 120 → Prog (TpuEff nD τ sig (Elt F) Λ .tc) PUnit
  | 0, _, _ => pure ⟨⟩
  | k + 1, n, h => do
    quantStep codes hc xr inv n (by omega)
    quantLoop codes hc xr inv k (n + 1) (by omega)

/-- From the maximum: the inverse scale to its scratch, the scale to its two outputs. -/
def finish (row : Memref sig .tc .vmem S1x1x256 .f32) (col inv : Memref sig .tc .vmem S256x128 .f32) (a : FVec F S256x128 .f32) :
    Prog (TpuEff nD τ sig (Elt F) Λ .tc) PUnit := do
  let _ : Vec F S256x128 .f32 ← Prog.lift (.load inv tile.toLoadRect (View.loadsAt_vmem posX))
  Prog.lift (.store inv tile (invTile a) Finset.univ (View.stores_vmem_bits_univ posX rfl) (.inl rfl))
  let _ : Vec F S256x128 .f32 ← Prog.lift (.load col tile.toLoadRect (View.loadsAt_vmem posX))
  Prog.lift (.store col tile (colTile a) Finset.univ (View.stores_vmem_bits_univ posX rfl) (.inl rfl))
  let _ : Vec F S1x1x256 .f32 ← Prog.lift (.load row rowR.toLoadRect (View.loadsAt_vmem posRow))
  Prog.lift (.store row rowR (rowTile a) Finset.univ (View.stores_vmem_bits_univ posRow rfl) (.inl rfl))
  pure ⟨⟩

/-- The body at the first point: rotate only. -/
def bodyFirst (x : Memref sig .tc .vmem S256x15360 .bf16) (r : Memref sig .tc .vmem S120x256x256 .bf16)
    (row : Memref sig .tc .vmem S1x1x256 .f32) (col : Memref sig .tc .vmem S256x128 .f32)
    (xr : Memref sig .tc .vmem S256x15360 .f32) (inv : Memref sig .tc .vmem S256x128 .f32) :
    Prog (TpuEff nD τ sig (Elt F) Λ .tc) PUnit := do
  let v ← rotStep x r xr 0 (by omega)
  let a ← rotLoop x r xr 119 1 (by omega) v
  finish row col inv a

/-- The body in between: quantise what the point before rotated, and rotate. -/
def bodyMiddle (x : Memref sig .tc .vmem S256x15360 .bf16) (r : Memref sig .tc .vmem S120x256x256 .bf16)
    (codes : Memref sig .tc .vmem S256x15360 .fp8e4m3) (hc : codes.IsWhole)
    (row : Memref sig .tc .vmem S1x1x256 .f32) (col : Memref sig .tc .vmem S256x128 .f32)
    (xr : Memref sig .tc .vmem S256x15360 .f32) (inv : Memref sig .tc .vmem S256x128 .f32) :
    Prog (TpuEff nD τ sig (Elt F) Λ .tc) PUnit := do
  let iv : Vec F S256x128 .f32 ← Prog.lift (.load inv tile.toLoadRect (View.loadsAt_vmem posX))
  quantStep codes hc xr iv 0 (by omega)
  let v ← rotStep x r xr 0 (by omega)
  let a ← bothLoop x r codes hc xr iv 119 1 (by omega) v
  finish row col inv a

/-- The body at the last point: quantise only. -/
def bodyLast (codes : Memref sig .tc .vmem S256x15360 .fp8e4m3) (hc : codes.IsWhole)
    (xr : Memref sig .tc .vmem S256x15360 .f32) (inv : Memref sig .tc .vmem S256x128 .f32) :
    Prog (TpuEff nD τ sig (Elt F) Λ .tc) PUnit := do
  let iv : Vec F S256x128 .f32 ← Prog.lift (.load inv tile.toLoadRect (View.loadsAt_vmem posX))
  quantLoop codes hc xr iv 120 0 (by omega)

end Programs

end Cert.Rotation

end
-- ==== Proof.RotateWp.lean ====
/- What the rotation kernel's loops leave in each buffer.

   `fill k G X` is `X` with its first `k` column blocks replaced by `G 0 … G (k - 1)`. A loop over the blocks, run from
   buffers holding known contents, leaves `fill 120` of what it computes per block; the running maximum is `amaxN`.
   Everything is by induction on the number of blocks, for any machine, signature and values. -/
module

public import proofs.«01_k».proof.Proof.RotateLoop
public import Idealize.ShloMosaic.Lib.Pointwise.Index

@[expose] public section

noncomputable section

namespace Cert.Rotation

open Idealize.ShloMosaic
open Idealize.SL Idealize.SL.RA Idealize.SL.Sem Idealize.SL.ProofMode
open Idealize.SL.BI (sProp)
open scoped Idealize.SL.BI
open Idealize.SL.BI.BIBase Idealize.SL.BI.Laws

/-! ## Contents by column blocks -/

section Blocks

variable {α : Type}

/-- Column block `n` of a `256×15360` array. -/
def blkOf (X : S256x15360.Idx → α) (n : ℕ) : S256x128.Idx → α := fun y =>
  X (ix2 (n0 := 256) (n1 := 15360) (y 0) ⟨(128 * n + (y 1).val) % 15360, Nat.mod_lt _ (by decide)⟩)

/-- Matrix `n` of a `120×256×256` array. -/
def matOf (R : S120x256x256.Idx → α) (n : ℕ) : S1x256x256.Idx → α := fun y =>
  R (ix3 (n0 := 120) (n1 := 256) (n2 := 256) ⟨n % 120, Nat.mod_lt _ (by decide)⟩ (y 1) (y 2))

/-- The first `k` column blocks replaced. -/
def fill (k : ℕ) (G : ℕ → S256x128.Idx → α) (X : S256x15360.Idx → α) : S256x15360.Idx → α := fun i =>
  if (i 1).val / 128 < k then
    G ((i 1).val / 128) (ix2 (n0 := 256) (n1 := 128) (i 0) ⟨(i 1).val % 128, Nat.mod_lt _ (by decide)⟩)
  else X i

theorem fill_zero (G : ℕ → S256x128.Idx → α) (X : S256x15360.Idx → α) : fill 0 G X = X := by
  funext i; unfold fill; rw [if_neg (Nat.not_lt_zero _)]

theorem emb_blkX {n : ℕ} (h : n < 120) (y : S256x128.Idx) :
    (blkX n h).emb y = ix2 (n0 := 256) (n1 := 15360) (y 0) ⟨(128 * n + (y 1).val) % 15360, Nat.mod_lt _ (by decide)⟩ := by
  have hy : (y 1).val < 128 := (y 1).isLt
  funext a; apply Fin.ext; match a with
  | ⟨0, _⟩ => show 0 + 1 * (y 0).val = (y 0).val; omega
  | ⟨1, _⟩ => show 128 * n + 1 * (y 1).val = (128 * n + (y 1).val) % 15360; omega

theorem read_blkX {n : ℕ} (h : n < 120) (X : S256x15360.Idx → α) : (fun y => X ((blkX n h).emb y)) = blkOf X n := by
  funext y; rw [emb_blkX]; rfl

theorem read_blkR {n : ℕ} (h : n < 120) (R : S120x256x256.Idx → α) : (fun y => R ((blkR n h).emb y)) = matOf R n := by
  funext y; unfold matOf; congr 1
  funext a; apply Fin.ext; match a with
  | ⟨0, _⟩ => have : (y 0).val < 1 := (y 0).isLt; show n + 1 * (y 0).val = n % 120; omega
  | ⟨1, _⟩ => show 0 + 1 * (y 1).val = (y 1).val; omega
  | ⟨2, _⟩ => show 0 + 1 * (y 2).val = (y 2).val; omega

/-- A block not yet replaced reads as before. -/
theorem blkOf_fill {n : ℕ} (h : n < 120) (G : ℕ → S256x128.Idx → α) (X : S256x15360.Idx → α) :
    blkOf (fill n G X) n = blkOf X n := by
  funext y
  have hy : (y 1).val < 128 := (y 1).isLt
  unfold blkOf fill
  refine if_neg ?_
  show ¬ ((128 * n + (y 1).val) % 15360) / 128 < n
  omega

/-- Replacing blocks by themselves changes nothing. -/
theorem fill_self (k : ℕ) (X : S256x15360.Idx → α) : fill k (fun n => blkOf X n) X = X := by
  funext i
  have hi1 : (i 1).val < 15360 := (i 1).isLt
  unfold fill
  split
  · refine congrArg X ?_
    funext a; apply Fin.ext; match a with
    | ⟨0, _⟩ => rfl
    | ⟨1, _⟩ => show (128 * ((i 1).val / 128) + (i 1).val % 128) % 15360 = (i 1).val; omega
  · rfl

/-- All blocks replaced. -/
theorem fill_all (G : ℕ → S256x128.Idx → α) (X : S256x15360.Idx → α) :
    fill 120 G X = fun i => G ((i 1).val / 128) (ix2 (n0 := 256) (n1 := 128) (i 0) ⟨(i 1).val % 128, Nat.mod_lt _ (by decide)⟩) := by
  funext i
  have hi1 : (i 1).val < 15360 := (i 1).isLt
  unfold fill; rw [if_pos (by omega)]

theorem emb_tile (y : S256x128.Idx) : tile.emb y = y := by
  funext a; apply Fin.ext; match a with
  | ⟨0, _⟩ => show 0 + 1 * (y 0).val = (y 0).val; omega
  | ⟨1, _⟩ => show 0 + 1 * (y 1).val = (y 1).val; omega

theorem emb_rowR (y : S1x1x256.Idx) : rowR.emb y = y := by
  funext a; apply Fin.ext; match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem read_tile (X : S256x128.Idx → α) : (fun y => X (tile.emb y)) = X := by
  funext y; rw [emb_tile]

theorem eq_of_tile {Z w : S256x128.Idx → α} (h : ∀ y, Z (tile.emb y) = w y) : Z = w := by
  funext y; rw [← h y, emb_tile]

theorem eq_of_rowR {Z w : S1x1x256.Idx → α} (h : ∀ y, Z (rowR.emb y) = w y) : Z = w := by
  funext y; rw [← h y, emb_rowR]

/-- Replacing block `n` after the first `n`. -/
theorem fill_succ {n : ℕ} (h : n < 120) (G : ℕ → S256x128.Idx → α) (X Y : S256x15360.Idx → α)
    (hin : ∀ y, Y ((blkX n h).emb y) = G n y) (hout : ∀ i, i ∉ (blkX n h).set → Y i = fill n G X i) :
    Y = fill (n + 1) G X := by
  funext i
  have hi1 : (i 1).val < 15360 := (i 1).isLt
  by_cases hb : (i 1).val / 128 = n
  · have he : (blkX n h).emb (ix2 (n0 := 256) (n1 := 128) (i 0) ⟨(i 1).val % 128, Nat.mod_lt _ (by decide)⟩) = i := by
      rw [emb_blkX]
      funext a; apply Fin.ext; match a with
      | ⟨0, _⟩ => rfl
      | ⟨1, _⟩ => show (128 * n + (i 1).val % 128) % 15360 = (i 1).val; omega
    have h1 := hin (ix2 (n0 := 256) (n1 := 128) (i 0) ⟨(i 1).val % 128, Nat.mod_lt _ (by decide)⟩)
    rw [he] at h1
    rw [h1]; unfold fill; rw [if_pos (by omega)]
    subst hb; rfl
  · have hm : i ∉ (blkX n h).set := by
      intro hc
      obtain ⟨y, -, hy⟩ := Finset.mem_map.mp ((Rect.map_emb_univ (blkX n h)).symm ▸ hc)
      rw [emb_blkX] at hy
      have h2 : (128 * n + (y 1).val) % 15360 = (i 1).val := by rw [← hy]; rfl
      have hy' : (y 1).val < 128 := (y 1).isLt
      omega
    rw [hout i hm]; unfold fill
    by_cases hlt : (i 1).val / 128 < n
    · rw [if_pos hlt, if_pos (by omega)]
    · rw [if_neg hlt, if_neg (by omega)]

end Blocks

/-- The running maximum `a` updated with blocks `n … n + k - 1`, and the maximum over all 120 blocks. -/
def maxFrom {F : FTy → Type} [FloatOps F] (V : ℕ → FVec F S256x128 .f32) : ℕ → ℕ → FVec F S256x128 .f32 → FVec F S256x128 .f32
  | 0, _, a => a
  | k + 1, n, a => maxFrom V k (n + 1) (maximumf a (absf (V n)))

def maxAll {F : FTy → Type} [FloatOps F] (V : ℕ → FVec F S256x128 .f32) : FVec F S256x128 .f32 := maxFrom V 119 1 (absf (V 0))

/-- Block `n` of the rotated rows. -/
def rotN {F : FTy → Type} [FloatOps F] (x : Vec F S256x15360 .bf16) (r : Vec F S120x256x256 .bf16) (n : ℕ) : FVec F S256x128 .f32 :=
  rot (blkOf x n) (matOf r n)

/-- The same as it is stored. -/
def rotS {F : FTy → Type} [FloatOps F] (x : Vec F S256x15360 .bf16) (r : Vec F S120x256x256 .bf16) (n : ℕ) : FVec F S256x128 .f32 :=
  shapeCast S256x128 (rotN x r n) (by decide)

/-- Block `n` of the codes. -/
def quantN {F : FTy → Type} [FloatOps F] (xr : Vec F S256x15360 .f32) (inv : Vec F S256x128 .f32) (n : ℕ) : FVec F S256x128 .fp8e4m3 :=
  quant (blkOf xr n) inv

/-! ## One access -/

section Access

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

theorem wp_load_owns {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp (MT nD τ sig Ix Val Name U Lvl))
      ⊢ iprop((owns c m q X -∗ wp frame (wpE defs 𝒱 c bd) E (k (fun y => X (r.emb y))) Q)
        -∗ wp frame (wpE defs 𝒱 c bd) E (.op (.load m r.toLoadRect hl) k) Q) := by
  unfold owns
  iintro ⟨%f, %hf, H⟩ Hk
  subst hf
  iapply (wp_load 𝒱 c bd E (Q := Q) (k := k) (hl := hl) (f := f) (q := q) (View.setOn_subset_set _ _)) $$ [H]
  · iexact H
  iintro H
  iapply Hk
  iexists f
  isplitr
  · ipureintro; rfl
  iexact H

theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X Y : s.Idx → Val e}
    (hY : ∀ Z : s.Idx → Val e, (∀ y, Z (r.emb y) = w y) → (∀ i, i ∉ r.set → Z i = X i) → Z = Y) :
    (owns c m fullShare X : sProp (MT nD τ sig Ix Val Name U Lvl))
      ⊢ iprop((owns c m fullShare Y -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store_writes₀ 𝒱 c bd E (Q := Q) (k := k) (hx := hx) (hm := hm) (w := w) (f := f) (m.view.set_slice_subset r)) $$ [H]
  · iexact H
  iintro H
  iapply Hk
  iexists (m.view.writes Val f [⟨r, w⟩])
  isplitr
  · ipureintro
    refine hY _ (fun y => ?_) (fun i hi => ?_)
    · exact View.read_writes_cons_emb _ _ _ _ _ _
    · exact View.read_writes_cons_miss _ _ _ _ _ hi
  iexact H

theorem wp_seq {β : Type} (p : Prog (TpuEff nD τ sig Val Λ c.2) β) (k : β → Prog (TpuEff nD τ sig Val Λ c.2) α) :
    wp frame (wpE defs 𝒱 c bd) E (p.bind k) Q = wp frame (wpE defs 𝒱 c bd) E p (fun a => wp frame (wpE defs 𝒱 c bd) E (k a) Q) :=
  wp_bind _ _ _ p k Q

theorem le_wp_bind_ret {β : Type} {u : β} {a : α} : Q a ⊢ wp frame (wpE defs 𝒱 c bd) E ((Prog.ret u).bind fun _ => Pure.pure a) Q :=
  le_wp_ret _ _ _ _ _

theorem le_wp_pure {a : α} : Q a ⊢ wp frame (wpE defs 𝒱 c bd) E (Pure.pure a) Q :=
  le_wp_ret _ _ _ _ _

end Access

/-! ## The loops -/

section Loops

variable {nD : Nat} {τ : Topo} {sig : RefSig} {Ix : Type} [DecidableEq Ix]
variable {F : FTy → Type} [FloatOps F] {Name : Type} [DecidableEq Name]
variable {U : Type} [URA U]
variable {Lvl : Type} {Λ : Labels}
variable [Preorder Lvl] {defs : Defs nD τ sig (Elt F) Λ} (𝒱 : Variants) (c : Dev nD) (bd : Option 𝒱.V) (E : Set Name)

local notation "𝕄" => MT nD τ sig Ix (Elt F) Name U Lvl

variable (x : Memref sig .tc .vmem S256x15360 .bf16) (r : Memref sig .tc .vmem S120x256x256 .bf16)
  (codes : Memref sig .tc .vmem S256x15360 .fp8e4m3) (hc : codes.IsWhole)
  (row : Memref sig .tc .vmem S1x1x256 .f32) (col : Memref sig .tc .vmem S256x128 .f32)
  (xr : Memref sig .tc .vmem S256x15360 .f32) (inv : Memref sig .tc .vmem S256x128 .f32)

theorem wp_rotStep (X : Vec F S256x15360 .bf16) (R : Vec F S120x256x256 .bf16) (S : Vec F S256x15360 .f32) (n : ℕ) (h : n < 120)
    (Q : FVec F S256x128 .f32 → sProp 𝕄) :
    iprop(owns (c.tc : Thread nD τ) x fullShare X ∗ owns (c.tc : Thread nD τ) r fullShare R
        ∗ owns (c.tc : Thread nD τ) xr fullShare (fill n (rotS X R) S)
        ∗ (iprop(owns (c.tc : Thread nD τ) x fullShare X ∗ owns (c.tc : Thread nD τ) r fullShare R
          ∗ owns (c.tc : Thread nD τ) xr fullShare (fill (n + 1) (rotS X R) S)) -∗ Q (absf (rotN X R n))))
      ⊢ wp frame (wpE defs 𝒱 (c.tc : Thread nD τ) bd) E (rotStep x r xr n h) Q := by
  iintro ⟨Hx, Hr, Hs, Hk⟩
  iapply (wp_load_owns 𝒱 (c.tc : Thread nD τ) bd E (Q := Q) (m := x) (r := blkX n h) (X := X)) $$ [Hx]
  · iexact Hx
  iintro Hx
  rw [read_blkX h X]
  iapply (wp_load_owns 𝒱 (c.tc : Thread nD τ) bd E (Q := Q) (m := r) (r := blkR n h) (X := R)) $$ [Hr]
  · iexact Hr
  iintro Hr
  rw [read_blkR h R]
  iapply (wp_load_owns 𝒱 (c.tc : Thread nD τ) bd E (Q := Q) (m := xr) (r := blkX n h)) $$ [Hs]
  · iexact Hs
  iintro Hs
  iapply (wp_store_owns 𝒱 (c.tc : Thread nD τ) bd E (Q := Q) (m := xr) (r := blkX n h) (w := rotS X R n)
    (Y := fill (n + 1) (rotS X R) S) (fun Z h1 h2 => fill_succ h _ _ Z h1 h2)) $$ [Hs]
  · iexact Hs
  iintro Hs
  iapply (le_wp_bind_ret 𝒱 (c.tc : Thread nD τ) bd E)
  rw [show rot (blkOf X n) (matOf R n) = rotN X R n from rfl]
  iapply Hk
  isplitl [Hx]; · iexact Hx
  isplitl [Hr]; · iexact Hr
  iexact Hs

theorem wp_quantStep (S : Vec F S256x15360 .f32) (I : Vec F S256x128 .f32) (C : Vec F S256x15360 .fp8e4m3)
    (G : ℕ → FVec F S256x128 .f32) (n : ℕ) (h : n < 120) (Q : PUnit → sProp 𝕄) :
    iprop(owns (c.tc : Thread nD τ) codes fullShare (fill n (quantN S I) C)
        ∗ owns (c.tc : Thread nD τ) xr fullShare (fill n G S)
        ∗ (iprop(owns (c.tc : Thread nD τ) codes fullShare (fill (n + 1) (quantN S I) C)
          ∗ owns (c.tc : Thread nD τ) xr fullShare (fill n G S)) -∗ Q ⟨⟩))
      ⊢ wp frame (wpE defs 𝒱 (c.tc : Thread nD τ) bd) E (quantStep codes hc xr I n h) Q := by
  iintro ⟨Hc, Hs, Hk⟩
  iapply (wp_load_owns 𝒱 (c.tc : Thread nD τ) bd E (Q := Q) (m := xr) (r := blkX n h)) $$ [Hs]
  · iexact Hs
  iintro Hs
  rw [read_blkX h, blkOf_fill h]
  iapply (wp_load_owns 𝒱 (c.tc : Thread nD τ) bd E (Q := Q) (m := codes) (r := blkX n h)) $$ [Hc]
  · iexact Hc
  iintro Hc
  iapply (wp_store_owns 𝒱 (c.tc : Thread nD τ) bd E (Q := Q) (m := codes) (r := blkX n h) (w := quantN S I n)
    (Y := fill (n + 1) (quantN S I) C) (fun Z h1 h2 => fill_succ h _ _ Z h1 h2)) $$ [Hc]
  · iexact Hc
  iintro Hc
  iapply (le_wp_ret _ _ _ _ _)
  iapply Hk
  isplitl [Hc]; · iexact Hc
  iexact Hs

theorem wp_rotLoop (X : Vec F S256x15360 .bf16) (R : Vec F S120x256x256 .bf16) (S : Vec F S256x15360 .f32) (k : ℕ) :
    ∀ (n : ℕ) (h : n + k ≤ 120) (a : FVec F S256x128 .f32) (Q : FVec F S256x128 .f32 → sProp 𝕄),
    iprop(owns (c.tc : Thread nD τ) x fullShare X ∗ owns (c.tc : Thread nD τ) r fullShare R
        ∗ owns (c.tc : Thread nD τ) xr fullShare (fill n (rotS X R) S)
        ∗ (iprop(owns (c.tc : Thread nD τ) x fullShare X ∗ owns (c.tc : Thread nD τ) r fullShare R
          ∗ owns (c.tc : Thread nD τ) xr fullShare (fill (n + k) (rotS X R) S)) -∗ Q (maxFrom (rotN X R) k n a)))
      ⊢ wp frame (wpE defs 𝒱 (c.tc : Thread nD τ) bd) E (rotLoop x r xr k n h a) Q := by
  induction k with
  | zero =>
    intro n h a Q
    rw [show maxFrom (rotN X R) 0 n a = a from rfl]
    iintro ⟨Hx, Hr, Hs, Hk⟩
    iapply (le_wp_ret _ _ _ _ _)
    iapply Hk
    isplitl [Hx]; · iexact Hx
    isplitl [Hr]; · iexact Hr
    iexact Hs
  | succ k ih =>
    intro n h a Q
    rw [show rotLoop x r xr (k + 1) n h a
      = (rotStep x r xr n (by omega)).bind (fun v => rotLoop x r xr k (n + 1) (by omega) (maximumf a v)) from rfl, wp_seq]
    iintro ⟨Hx, Hr, Hs, Hk⟩
    iapply (wp_rotStep 𝒱 c bd E x r xr X R S n _ _)
    isplitl [Hx]; · iexact Hx
    isplitl [Hr]; · iexact Hr
    isplitl [Hs]; · iexact Hs
    iintro ⟨Hx, Hr, Hs⟩
    iapply (ih (n + 1) _ _ Q)
    isplitl [Hx]; · iexact Hx
    isplitl [Hr]; · iexact Hr
    isplitl [Hs]; · iexact Hs
    rw [show n + 1 + k = n + (k + 1) by omega]
    iexact Hk

theorem wp_quantLoop (S : Vec F S256x15360 .f32) (I : Vec F S256x128 .f32) (C : Vec F S256x15360 .fp8e4m3) (k : ℕ) :
    ∀ (n : ℕ) (h : n + k ≤ 120) (Q : PUnit → sProp 𝕄),
    iprop(owns (c.tc : Thread nD τ) codes fullShare (fill n (quantN S I) C)
        ∗ owns (c.tc : Thread nD τ) xr fullShare S
        ∗ (iprop(owns (c.tc : Thread nD τ) codes fullShare (fill (n + k) (quantN S I) C)
          ∗ owns (c.tc : Thread nD τ) xr fullShare S) -∗ Q ⟨⟩))
      ⊢ wp frame (wpE defs 𝒱 (c.tc : Thread nD τ) bd) E (quantLoop codes hc xr I k n h) Q := by
  induction k with
  | zero =>
    intro n h Q
    iintro ⟨Hc, Hs, Hk⟩
    iapply (le_wp_ret _ _ _ _ _)
    iapply Hk
    isplitl [Hc]; · iexact Hc
    iexact Hs
  | succ k ih =>
    intro n h Q
    rw [show quantLoop codes hc xr I (k + 1) n h
      = (quantStep codes hc xr I n (by omega)).bind (fun _ => quantLoop codes hc xr I k (n + 1) (by omega)) from rfl, wp_seq]
    iintro ⟨Hc, Hs, Hk⟩
    iapply (wp_quantStep 𝒱 c bd E codes hc xr S I C (fun i => blkOf S i) n _ _)
    rw [fill_self]
    isplitl [Hc]; · iexact Hc
    isplitl [Hs]; · iexact Hs
    iintro ⟨Hc, Hs⟩
    iapply (ih (n + 1) _ Q)
    isplitl [Hc]; · iexact Hc
    isplitl [Hs]; · iexact Hs
    rw [show n + 1 + k = n + (k + 1) by omega]
    iexact Hk

theorem wp_bothLoop (X : Vec F S256x15360 .bf16) (R : Vec F S120x256x256 .bf16) (S : Vec F S256x15360 .f32)
    (I : Vec F S256x128 .f32) (C : Vec F S256x15360 .fp8e4m3) (k : ℕ) :
    ∀ (n : ℕ) (h : n + k ≤ 120) (a : FVec F S256x128 .f32) (Q : FVec F S256x128 .f32 → sProp 𝕄),
    iprop(owns (c.tc : Thread nD τ) x fullShare X ∗ owns (c.tc : Thread nD τ) r fullShare R
        ∗ owns (c.tc : Thread nD τ) codes fullShare (fill n (quantN S I) C)
        ∗ owns (c.tc : Thread nD τ) xr fullShare (fill n (rotS X R) S)
        ∗ (iprop(owns (c.tc : Thread nD τ) x fullShare X ∗ owns (c.tc : Thread nD τ) r fullShare R
          ∗ owns (c.tc : Thread nD τ) codes fullShare (fill (n + k) (quantN S I) C)
          ∗ owns (c.tc : Thread nD τ) xr fullShare (fill (n + k) (rotS X R) S)) -∗ Q (maxFrom (rotN X R) k n a)))
      ⊢ wp frame (wpE defs 𝒱 (c.tc : Thread nD τ) bd) E (bothLoop x r codes hc xr I k n h a) Q := by
  induction k with
  | zero =>
    intro n h a Q
    rw [show maxFrom (rotN X R) 0 n a = a from rfl]
    iintro ⟨Hx, Hr, Hc, Hs, Hk⟩
    iapply (le_wp_ret _ _ _ _ _)
    iapply Hk
    isplitl [Hx]; · iexact Hx
    isplitl [Hr]; · iexact Hr
    isplitl [Hc]; · iexact Hc
    iexact Hs
  | succ k ih =>
    intro n h a Q
    rw [show bothLoop x r codes hc xr I (k + 1) n h a
      = (quantStep codes hc xr I n (by omega)).bind (fun _ => (rotStep x r xr n (by omega)).bind
          (fun v => bothLoop x r codes hc xr I k (n + 1) (by omega) (maximumf a v))) from rfl, wp_seq]
    iintro ⟨Hx, Hr, Hc, Hs, Hk⟩
    iapply (wp_quantStep 𝒱 c bd E codes hc xr S I C (rotS X R) n _ _)
    isplitl [Hc]; · iexact Hc
    isplitl [Hs]; · iexact Hs
    iintro ⟨Hc, Hs⟩
    rw [wp_seq]
    iapply (wp_rotStep 𝒱 c bd E x r xr X R S n _ _)
    isplitl [Hx]; · iexact Hx
    isplitl [Hr]; · iexact Hr
    isplitl [Hs]; · iexact Hs
    iintro ⟨Hx, Hr, Hs⟩
    iapply (ih (n + 1) _ _ Q)
    isplitl [Hx]; · iexact Hx
    isplitl [Hr]; · iexact Hr
    isplitl [Hc]; · iexact Hc
    isplitl [Hs]; · iexact Hs
    rw [show n + 1 + k = n + (k + 1) by omega]
    iexact Hk

theorem wp_finish (a : FVec F S256x128 .f32) (Q : PUnit → sProp 𝕄) :
    iprop((∃ d, owns (c.tc : Thread nD τ) row fullShare d) ∗ (∃ d, owns (c.tc : Thread nD τ) col fullShare d)
        ∗ (∃ d, owns (c.tc : Thread nD τ) inv fullShare d)
        ∗ (iprop(owns (c.tc : Thread nD τ) row fullShare (rowTile a) ∗ owns (c.tc : Thread nD τ) col fullShare (colTile a)
          ∗ owns (c.tc : Thread nD τ) inv fullShare (invTile a)) -∗ Q ⟨⟩))
      ⊢ wp frame (wpE defs 𝒱 (c.tc : Thread nD τ) bd) E (finish row col inv a) Q := by
  iintro ⟨⟨%d1, H1⟩, ⟨%d2, H2⟩, ⟨%d3, H3⟩, Hk⟩
  iapply (wp_load_owns 𝒱 (c.tc : Thread nD τ) bd E (Q := Q) (m := inv) (r := tile)) $$ [H3]
  · iexact H3
  iintro H3
  iapply (wp_store_owns 𝒱 (c.tc : Thread nD τ) bd E (Q := Q) (m := inv) (r := tile) (w := invTile a)
    (Y := invTile a) (fun Z h1 _ => eq_of_tile h1)) $$ [H3]
  · iexact H3
  iintro H3
  iapply (wp_load_owns 𝒱 (c.tc : Thread nD τ) bd E (Q := Q) (m := col) (r := tile)) $$ [H2]
  · iexact H2
  iintro H2
  iapply (wp_store_owns 𝒱 (c.tc : Thread nD τ) bd E (Q := Q) (m := col) (r := tile) (w := colTile a)
    (Y := colTile a) (fun Z h1 _ => eq_of_tile h1)) $$ [H2]
  · iexact H2
  iintro H2
  iapply (wp_load_owns 𝒱 (c.tc : Thread nD τ) bd E (Q := Q) (m := row) (r := rowR)) $$ [H1]
  · iexact H1
  iintro H1
  iapply (wp_store_owns 𝒱 (c.tc : Thread nD τ) bd E (Q := Q) (m := row) (r := rowR) (w := rowTile a)
    (Y := rowTile a) (fun Z h1 _ => eq_of_rowR h1)) $$ [H1]
  · iexact H1
  iintro H1
  iapply (le_wp_bind_ret 𝒱 (c.tc : Thread nD τ) bd E)
  iapply Hk
  isplitl [H1]; · iexact H1
  isplitl [H2]; · iexact H2
  iexact H3

/-! ## The three cases of the body -/

/-- What a point leaves in the rotated rows' scratch. -/
def rotated (X : Vec F S256x15360 .bf16) (R : Vec F S120x256x256 .bf16) : Vec F S256x15360 .f32 :=
  fun i => rotS X R ((i 1).val / 128) (ix2 (n0 := 256) (n1 := 128) (i 0) ⟨(i 1).val % 128, Nat.mod_lt _ (by decide)⟩)

/-- What a point leaves in the codes. -/
def quantised (S : Vec F S256x15360 .f32) (I : Vec F S256x128 .f32) : Vec F S256x15360 .fp8e4m3 :=
  fun i => quantN S I ((i 1).val / 128) (ix2 (n0 := 256) (n1 := 128) (i 0) ⟨(i 1).val % 128, Nat.mod_lt _ (by decide)⟩)

theorem wp_bodyFirst (X : Vec F S256x15360 .bf16) (R : Vec F S120x256x256 .bf16) (Q : PUnit → sProp 𝕄) :
    iprop(owns (c.tc : Thread nD τ) x fullShare X ∗ owns (c.tc : Thread nD τ) r fullShare R
        ∗ (∃ d, owns (c.tc : Thread nD τ) row fullShare d) ∗ (∃ d, owns (c.tc : Thread nD τ) col fullShare d)
        ∗ (∃ d, owns (c.tc : Thread nD τ) xr fullShare d) ∗ (∃ d, owns (c.tc : Thread nD τ) inv fullShare d)
        ∗ (iprop(owns (c.tc : Thread nD τ) x fullShare X ∗ owns (c.tc : Thread nD τ) r fullShare R
          ∗ owns (c.tc : Thread nD τ) row fullShare (rowTile (maxAll (rotN X R)))
          ∗ owns (c.tc : Thread nD τ) col fullShare (colTile (maxAll (rotN X R)))
          ∗ owns (c.tc : Thread nD τ) xr fullShare (rotated X R)
          ∗ owns (c.tc : Thread nD τ) inv fullShare (invTile (maxAll (rotN X R)))) -∗ Q ⟨⟩))
      ⊢ wp frame (wpE defs 𝒱 (c.tc : Thread nD τ) bd) E (bodyFirst x r row col xr inv) Q := by
  rw [show bodyFirst x r row col xr inv = (rotStep x r xr 0 (by omega)).bind (fun v =>
    (rotLoop x r xr 119 1 (by omega) v).bind (fun a => finish row col inv a)) from rfl, wp_seq]
  iintro ⟨Hx, Hr, H1, H2, ⟨%S, Hs⟩, H3, Hk⟩
  iapply (wp_rotStep 𝒱 c bd E x r xr X R S 0 _ _)
  rw [fill_zero]
  isplitl [Hx]; · iexact Hx
  isplitl [Hr]; · iexact Hr
  isplitl [Hs]; · iexact Hs
  iintro ⟨Hx, Hr, Hs⟩
  rw [wp_seq]
  iapply (wp_rotLoop 𝒱 c bd E x r xr X R S 119 1 _ _ _)
  isplitl [Hx]; · iexact Hx
  isplitl [Hr]; · iexact Hr
  isplitl [Hs]; · iexact Hs
  iintro ⟨Hx, Hr, Hs⟩
  iapply (wp_finish 𝒱 c bd E row col inv _ Q)
  isplitl [H1]; · iexact H1
  isplitl [H2]; · iexact H2
  isplitl [H3]; · iexact H3
  iintro ⟨H1, H2, H3⟩
  iapply Hk
  rw [show fill (1 + 119) (rotS X R) S = rotated X R from fill_all _ _]
  isplitl [Hx]; · iexact Hx
  isplitl [Hr]; · iexact Hr
  isplitl [H1]; · iexact H1
  isplitl [H2]; · iexact H2
  isplitl [Hs]; · iexact Hs
  iexact H3

theorem wp_bodyMiddle (X : Vec F S256x15360 .bf16) (R : Vec F S120x256x256 .bf16) (S : Vec F S256x15360 .f32)
    (I : Vec F S256x128 .f32) (Q : PUnit → sProp 𝕄) :
    iprop(owns (c.tc : Thread nD τ) x fullShare X ∗ owns (c.tc : Thread nD τ) r fullShare R
        ∗ (∃ d, owns (c.tc : Thread nD τ) codes fullShare d)
        ∗ (∃ d, owns (c.tc : Thread nD τ) row fullShare d) ∗ (∃ d, owns (c.tc : Thread nD τ) col fullShare d)
        ∗ owns (c.tc : Thread nD τ) xr fullShare S ∗ owns (c.tc : Thread nD τ) inv fullShare I
        ∗ (iprop(owns (c.tc : Thread nD τ) x fullShare X ∗ owns (c.tc : Thread nD τ) r fullShare R
          ∗ owns (c.tc : Thread nD τ) codes fullShare (quantised S I)
          ∗ owns (c.tc : Thread nD τ) row fullShare (rowTile (maxAll (rotN X R)))
          ∗ owns (c.tc : Thread nD τ) col fullShare (colTile (maxAll (rotN X R)))
          ∗ owns (c.tc : Thread nD τ) xr fullShare (rotated X R)
          ∗ owns (c.tc : Thread nD τ) inv fullShare (invTile (maxAll (rotN X R)))) -∗ Q ⟨⟩))
      ⊢ wp frame (wpE defs 𝒱 (c.tc : Thread nD τ) bd) E (bodyMiddle x r codes hc row col xr inv) Q := by
  iintro ⟨Hx, Hr, ⟨%C, Hc⟩, H1, H2, Hs, H3, Hk⟩
  iapply (wp_load_owns 𝒱 (c.tc : Thread nD τ) bd E (Q := Q) (m := inv) (r := tile)) $$ [H3]
  · iexact H3
  iintro H3
  rw [read_tile I]
  iapply (show wp frame (wpE defs 𝒱 (c.tc : Thread nD τ) bd) E ((quantStep codes hc xr I 0 _).bind (fun _ =>
    (rotStep x r xr 0 (by omega)).bind (fun v => (bothLoop x r codes hc xr I 119 1 (by omega) v).bind
      (fun a => finish row col inv a)))) Q ⊢ _ from .rfl)
  rw [wp_seq]
  iapply (wp_quantStep 𝒱 c bd E codes hc xr S I C (rotS X R) 0 _ _)
  rw [fill_zero, fill_zero]
  isplitl [Hc]; · iexact Hc
  isplitl [Hs]; · iexact Hs
  iintro ⟨Hc, Hs⟩
  rw [wp_seq]
  iapply (wp_rotStep 𝒱 c bd E x r xr X R S 0 _ _)
  rw [fill_zero]
  isplitl [Hx]; · iexact Hx
  isplitl [Hr]; · iexact Hr
  isplitl [Hs]; · iexact Hs
  iintro ⟨Hx, Hr, Hs⟩
  rw [wp_seq]
  iapply (wp_bothLoop 𝒱 c bd E x r codes hc xr X R S I C 119 1 _ _ _)
  isplitl [Hx]; · iexact Hx
  isplitl [Hr]; · iexact Hr
  isplitl [Hc]; · iexact Hc
  isplitl [Hs]; · iexact Hs
  iintro ⟨Hx, Hr, Hc, Hs⟩
  iapply (wp_finish 𝒱 c bd E row col inv _ Q)
  isplitl [H1]; · iexact H1
  isplitl [H2]; · iexact H2
  isplitl [H3]; · iexists _; iexact H3
  iintro ⟨H1, H2, H3⟩
  iapply Hk
  rw [show fill (1 + 119) (rotS X R) S = rotated X R from fill_all _ _,
    show fill (1 + 119) (quantN S I) C = quantised S I from fill_all _ _]
  isplitl [Hx]; · iexact Hx
  isplitl [Hr]; · iexact Hr
  isplitl [Hc]; · iexact Hc
  isplitl [H1]; · iexact H1
  isplitl [H2]; · iexact H2
  isplitl [Hs]; · iexact Hs
  iexact H3

theorem wp_bodyLast (S : Vec F S256x15360 .f32) (I : Vec F S256x128 .f32) (Q : PUnit → sProp 𝕄) :
    iprop((∃ d, owns (c.tc : Thread nD τ) codes fullShare d)
        ∗ owns (c.tc : Thread nD τ) xr fullShare S ∗ owns (c.tc : Thread nD τ) inv fullShare I
        ∗ (iprop(owns (c.tc : Thread nD τ) codes fullShare (quantised S I)
          ∗ owns (c.tc : Thread nD τ) xr fullShare S ∗ owns (c.tc : Thread nD τ) inv fullShare I) -∗ Q ⟨⟩))
      ⊢ wp frame (wpE defs 𝒱 (c.tc : Thread nD τ) bd) E (bodyLast codes hc xr inv) Q := by
  iintro ⟨⟨%C, Hc⟩, Hs, H3, Hk⟩
  iapply (wp_load_owns 𝒱 (c.tc : Thread nD τ) bd E (Q := Q) (m := inv) (r := tile)) $$ [H3]
  · iexact H3
  iintro H3
  rw [read_tile I]
  iapply (wp_quantLoop 𝒱 c bd E codes hc xr S I C 120 0 (Nat.le_refl 120) Q)
  rw [fill_zero]
  isplitl [Hc]; · iexact Hc
  isplitl [Hs]; · iexact Hs
  iintro ⟨Hc, Hs⟩
  iapply Hk
  rw [show fill (0 + 120) (quantN S I) C = quantised S I from fill_all _ _]
  isplitl [Hc]; · iexact Hc
  isplitl [Hs]; · iexact Hs
  iexact H3

end Loops

end Cert.Rotation

end
-- ==== Proof.RotateFrame.lean ====
/- The rotation kernel's run, from its body (`Proof/RotateLoop.lean`, `Proof/RotateWp.lean`).

   The printed body at a grid point is one of three programs: the first point rotates 256 rows into the scratch, a
   point in between first quantises what the point before rotated, the last only quantises. So the codes of point `t`
   are those of the scratch that point `t - 1` left, and the scales of point `t` those of row tile `min t 15`. At the last
   point the body leaves the two scale windows as it found them, and the pipeline writes them back: they still hold
   what point 15 left, their block not having moved. -/
module

public import proofs.«01_k».proof.Proof.Gen.Rotate.Frame
public import proofs.«01_k».proof.Proof.Gen.Rotate.Skeleton
public import proofs.«01_k».proof.Proof.RotateWp
public import Idealize.ShloMosaic.Lib.Pipeline.Regions
public import Idealize.ShloMosaic.Lib.Claim

@[expose] public section

set_option maxRecDepth 65536

noncomputable section

namespace Cert.Rotate.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rotation (bodyFirst bodyMiddle bodyLast rotN rotated quantised maxAll rowTile colTile invTile
  wp_bodyFirst wp_bodyMiddle wp_bodyLast)

variable {F : FTy → Type} [FloatOps F]

local notation "𝕄" => MT nD τ sig Unit (Elt F) ℕ (UR sig nD τ) ℕ

/-! ## The printed body is the loop -/

section Body

variable (i : grid0.Coords) (arg1 : Memref sig .tc .vmem S256x15360 .bf16) (harg1 : arg1.IsWhole)
  (arg2 : Memref sig .tc .vmem S120x256x256 .bf16) (harg2 : arg2.IsWhole)
  (arg3 : Memref sig .tc .vmem S256x15360 .fp8e4m3) (harg3 : arg3.IsWhole)
  (arg4 : Memref sig .tc .vmem S1x1x256 .f32) (harg4 : arg4.IsWhole)
  (arg5 : Memref sig .tc .vmem S256x128 .f32) (harg5 : arg5.IsWhole)
  (arg6 : Memref sig .tc .vmem S256x15360 .f32) (harg6 : arg6.IsWhole)
  (arg7 : Memref sig .tc .vmem S256x128 .f32) (harg7 : arg7.IsWhole)

theorem body_first (h1 : k0_cond1 i = 1#1) (h2 : ¬ k0_cond2 i = 1#1) (h3 : ¬ k0_cond3 i = 1#1) :
    cc0_rotate_quant (F := F) i arg1 harg1 arg2 harg2 arg3 harg3 arg4 harg4 arg5 harg5 arg6 harg6 arg7 harg7
      = bodyFirst arg1 arg2 arg4 arg5 arg6 arg7 := by
  rw [cc0_rotate_quant_eq_skeleton]
  unfold cc0_rotate_quant_skel
  rw [dif_pos h1, dif_neg h2, dif_neg h3]
  chain_rfl

theorem body_middle (h1 : ¬ k0_cond1 i = 1#1) (h2 : k0_cond2 i = 1#1) (h3 : ¬ k0_cond3 i = 1#1) :
    cc0_rotate_quant (F := F) i arg1 harg1 arg2 harg2 arg3 harg3 arg4 harg4 arg5 harg5 arg6 harg6 arg7 harg7
      = bodyMiddle arg1 arg2 arg3 harg3 arg4 arg5 arg6 arg7 := by
  rw [cc0_rotate_quant_eq_skeleton]
  unfold cc0_rotate_quant_skel
  rw [dif_neg h1, dif_pos h2, dif_neg h3]
  chain_rfl

theorem body_last (h1 : ¬ k0_cond1 i = 1#1) (h2 : ¬ k0_cond2 i = 1#1) (h3 : k0_cond3 i = 1#1) :
    cc0_rotate_quant (F := F) i arg1 harg1 arg2 harg2 arg3 harg3 arg4 harg4 arg5 harg5 arg6 harg6 arg7 harg7
      = bodyLast arg3 harg3 arg6 arg7 := by
  rw [cc0_rotate_quant_eq_skeleton]
  unfold cc0_rotate_quant_skel
  rw [dif_neg h1, dif_neg h2, dif_pos h3]
  chain_rfl

end Body

/-! ## Which case a point is in, and where a window is idle -/

theorem cond_first : ∀ t : Fin cfg0.N, k0_cond1 (grid0.coords t) = 1#1 ↔ t.val = 0 :=
  (by decide +kernel : ∀ t : Fin grid0.N, k0_cond1 (grid0.coords t) = 1#1 ↔ t.val = 0)

theorem cond_middle : ∀ t : Fin cfg0.N, k0_cond2 (grid0.coords t) = 1#1 ↔ (1 ≤ t.val ∧ t.val ≤ 15) :=
  (by decide +kernel : ∀ t : Fin grid0.N, k0_cond2 (grid0.coords t) = 1#1 ↔ (1 ≤ t.val ∧ t.val ≤ 15))

theorem cond_last : ∀ t : Fin cfg0.N, k0_cond3 (grid0.coords t) = 1#1 ↔ t.val = 16 :=
  (by decide +kernel : ∀ t : Fin grid0.N, k0_cond3 (grid0.coords t) = 1#1 ↔ t.val = 16)

theorem idle_codes : ∀ t : Fin cfg0.N, t.val = 0 → cfg0.idle 2 (grid0.coords t) = true ∧ (cfg0.win 2).flush t = false := by
  decide +kernel
theorem live_codes : ∀ t : Fin cfg0.N, t.val ≠ 0 → cfg0.idle 2 (grid0.coords t) = false := by decide +kernel
theorem live_row : ∀ t : Fin cfg0.N, t.val ≤ 15 → cfg0.idle 3 (grid0.coords t) = false := by decide +kernel
theorem live_col : ∀ t : Fin cfg0.N, t.val ≤ 15 → cfg0.idle 4 (grid0.coords t) = false := by decide +kernel
theorem idle_row : ∀ t : Fin cfg0.N, t.val = 16 → cfg0.idle 3 (grid0.coords t) = true ∧ (cfg0.win 3).flush t = true := by
  decide +kernel
theorem idle_col : ∀ t : Fin cfg0.N, t.val = 16 → cfg0.idle 4 (grid0.coords t) = true ∧ (cfg0.win 4).flush t = true := by
  decide +kernel
theorem keep_row : ∀ t : Fin cfg0.N, t.val = 15 → (cfg0.win 3).flush t = false := by decide +kernel
theorem keep_col : ∀ t : Fin cfg0.N, t.val = 15 → (cfg0.win 4).flush t = false := by decide +kernel

/-! ## What every point leaves -/

variable (m : (ℓ : Loc nD τ sig) → Buf (Elt F) ℓ) (ρ : Dev nD → PrngReg)

/-- The point whose row tile point `n` holds: itself, but 15 at the last. -/
abbrev pt (n : ℕ) : Fin cfg0.N := ⟨min n 15, lt_of_lt_of_eq (by omega : min n 15 < 17) N_0.symm⟩

abbrev inX (c : Dev nD) (n : ℕ) : Vec F S256x15360 .bf16 := iblk m c 0 (pt n)
abbrev inR (c : Dev nD) (n : ℕ) : Vec F S120x256x256 .bf16 := iblk m c 1 (pt n)

/-- The rotated rows point `n` leaves, the largest absolute values, the inverse scale. -/
def scrX (c : Dev nD) (n : ℕ) : Vec F S256x15360 .f32 := rotated (inX m c n) (inR m c n)
def amaxAt (c : Dev nD) (n : ℕ) : Vec F S256x128 .f32 := maxAll (rotN (inX m c n) (inR m c n))
def scrI (c : Dev nD) (n : ℕ) : Vec F S256x128 .f32 := invTile (amaxAt m c n)

abbrev ms0_0 (t : Fin cfg0.N) : Memref sig .tc .vmem S256x15360 .bf16 := win0_0.stage (cfg0.slots t 0)
abbrev ms0_1 (t : Fin cfg0.N) : Memref sig .tc .vmem S120x256x256 .bf16 := win0_1.stage (cfg0.slots t 1)
abbrev ms0_2 (t : Fin cfg0.N) : Memref sig .tc .vmem S256x15360 .fp8e4m3 := win0_2.stage (cfg0.slots t 2)
abbrev ms0_3 (t : Fin cfg0.N) : Memref sig .tc .vmem S1x1x256 .f32 := win0_3.stage (cfg0.slots t 3)
abbrev ms0_4 (t : Fin cfg0.N) : Memref sig .tc .vmem S256x128 .f32 := win0_4.stage (cfg0.slots t 4)
abbrev scM0_0 : Memref sig .tc .vmem S256x15360 .f32 := Memref.whole cc0_scratch0
abbrev scM0_1 : Memref sig .tc .vmem S256x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before point `n`: the scratch at what the point before left, at anything before the first. -/
def PhiS (c : Dev nD) : ℕ → sProp 𝕄
  | 0 => Pipeline.ΦA spec0 c
  | n + 1 => iprop(iprop(owns (c : Thread nD τ) scM0_0 fullShare (scrX m c n) ∗ owns (c : Thread nD τ) scM0_1 fullShare (scrI m c n))
      ∗ (∃ r, prngReg c r))

theorem PhiS_succ (c : Dev nD) (n : ℕ) :
    PhiS m c (n + 1) = iprop(iprop(owns (c : Thread nD τ) scM0_0 fullShare (scrX m c n) ∗ owns (c : Thread nD τ) scM0_1 fullShare (scrI m c n))
      ∗ (∃ r, prngReg c r)) := rfl

theorem PhiS_pos (c : Dev nD) (n : ℕ) (h : n ≠ 0) : PhiS m c n = PhiS m c (n - 1 + 1) := by
  rw [Nat.sub_add_cancel (Nat.one_le_iff_ne_zero.mpr h)]

/-- The proof data: inputs at their blocks, the codes of the scratch the point before left, the scales of the
    point's row tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => quantised (scrX m c (t.val - 1)) (scrI m c (t.val - 1))
    | ⟨3, _⟩ => rowTile (amaxAt m c t.val)
    | ⟨4, _⟩ => colTile (amaxAt m c t.val)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = quantised (scrX m c (t.val - 1)) (scrI m c (t.val - 1)) := by dsimp only [dats]
theorem after0_3 (c : Dev nD) (t : Fin cfg0.N) : (dats m 0 c).after 3 t = rowTile (amaxAt m c t.val) := by dsimp only [dats]
theorem after0_4 (c : Dev nD) (t : Fin cfg0.N) : (dats m 0 c).after 4 t = colTile (amaxAt m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- An output not written back at the point before, and stored into there, still holds what that point left. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t ht ((cfg0.win w).fetch_out hw t), hfl, if_neg Bool.false_ne_true]
  unfold Dat.left; rw [hl]; unfold Dat.kept
  rw [Pipeline.fill_of_clip_none w _ (hclip _) d ((dats m 0 c).after w _), Pipeline.Window.fill_cut]

/-- The scale windows move with `min t 15`: the last two points leave the same. -/
theorem pt_last (t : Fin cfg0.N) (ht : t.val = 16) : pt (t.val - 1) = pt t.val :=
  Fin.ext (by show min (t.val - 1) 15 = min t.val 15; omega)

/-- At the last point the scale windows still hold what point 15 left. -/
theorem before0_3 (c : Dev nD) (t : Fin cfg0.N) (ht : t.val = 16) (d) : (dats m 0 c).before 3 t d = (dats m 0 c).after 3 t := by
  rw [before_kept m c 3 rfl t (by omega) (keep_row _ (by show t.val - 1 = 15; omega)) (live_row _ (by show t.val - 1 ≤ 15; omega))
    (fun _ _ => rfl) d, after0_3, after0_3]
  unfold amaxAt inX inR; rw [pt_last t ht]
theorem before0_4 (c : Dev nD) (t : Fin cfg0.N) (ht : t.val = 16) (d) : (dats m 0 c).before 4 t d = (dats m 0 c).after 4 t := by
  rw [before_kept m c 4 rfl t (by omega) (keep_col _ (by show t.val - 1 = 15; omega)) (live_col _ (by show t.val - 1 ≤ 15; omega))
    (fun _ _ => rfl) d, after0_4, after0_4]
  unfold amaxAt inX inR; rw [pt_last t ht]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_flushed (c : Dev nD) (w : Fin cfg0.W) (t : Fin cfg0.N) (h : cfg0.idle w (grid0.coords t) = true ∧ (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h.1, h.2]

theorem iblk_pt (c : Dev nD) (t : Fin cfg0.N) (h : t.val ≤ 15) : pt t.val = t := Fin.ext (by show min t.val 15 = t.val; omega)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  rw [leaves_live m c 0 t rfl, leaves_live m c 1 t rfl, after0_0, after0_1]
  have hN : t.val < 17 := lt_of_lt_of_eq t.isLt (show cfg0.N = 17 from N_0)
  by_cases h0 : t.val = 0
  · rw [body_first _ _ _ _ _ _ _ _ _ _ _ _ _ _ _ ((cond_first t).mpr h0) (fun h => by have := (cond_middle t).mp h; omega)
      (fun h => by have := (cond_last t).mp h; omega)]
    rw [Dat.leavesExact_idle (dats m 0 c) 2 t (idle_codes t h0).1 (idle_codes t h0).2]
    rw [leaves_live m c 3 t (live_row t (by omega)), leaves_live m c 4 t (live_col t (by omega)), after0_3, after0_4]
    rw [show PhiS m c t.val = Pipeline.ΦA spec0 c by rw [h0]; rfl, PhiA0_eq]
    unfold scrI scrX amaxAt inX inR
    rw [iblk_pt c t (by omega)]
    iintro ⟨⟨⟨HS0, HS1⟩, Hg⟩, Ho, ⟨%d0, H0⟩, ⟨%d1, H1⟩, ⟨%d2, H2⟩, ⟨%d3, H3⟩, ⟨%d4, H4⟩⟩
    iapply (wp_bodyFirst Variants.none c none Set.univ (ms0_0 t) (ms0_1 t) (ms0_3 t) (ms0_4 t) scM0_0 scM0_1 (iblk m c 0 t) (iblk m c 1 t) _)
    isplitl [H0]; · iexact H0
    isplitl [H1]; · iexact H1
    isplitl [H3]; · iexists _; iexact H3
    isplitl [H4]; · iexists _; iexact H4
    isplitl [HS0]; · iexact HS0
    isplitl [HS1]; · iexact HS1
    iintro ⟨H0, H1, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexists _; iexact H2
    isplitl [H3]; · iexact H3
    iexact H4
  rw [PhiS_pos m c t.val h0, PhiS_succ, leaves_live m c 2 t (live_codes t h0), after0_2]
  by_cases h1 : t.val ≤ 15
  · rw [body_middle _ _ _ _ _ _ _ _ _ _ _ _ _ _ _ (fun h => h0 ((cond_first t).mp h)) ((cond_middle t).mpr ⟨by omega, h1⟩)
      (fun h => by have := (cond_last t).mp h; omega)]
    rw [leaves_live m c 3 t (live_row t h1), leaves_live m c 4 t (live_col t h1), after0_3, after0_4]
    rw [show scrX m c t.val = rotated (iblk m c 0 t) (iblk m c 1 t) by unfold scrX inX inR; rw [iblk_pt c t h1],
      show scrI m c t.val = invTile (amaxAt m c t.val) from rfl,
      show amaxAt m c t.val = maxAll (rotN (iblk m c 0 t) (iblk m c 1 t)) by unfold amaxAt inX inR; rw [iblk_pt c t h1]]
    iintro ⟨⟨⟨HS0, HS1⟩, Hg⟩, Ho, ⟨%d0, H0⟩, ⟨%d1, H1⟩, ⟨%d2, H2⟩, ⟨%d3, H3⟩, ⟨%d4, H4⟩⟩
    iapply (wp_bodyMiddle Variants.none c none Set.univ (ms0_0 t) (ms0_1 t) (ms0_2 t) _ (ms0_3 t) (ms0_4 t) scM0_0 scM0_1
      (iblk m c 0 t) (iblk m c 1 t) (scrX m c (t.val - 1)) (scrI m c (t.val - 1)) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · have h2 : t.val = 16 := by omega
    rw [body_last _ _ _ _ _ _ _ _ _ _ _ _ _ _ _ (fun h => h0 ((cond_first t).mp h)) (fun h => by have := (cond_middle t).mp h; omega)
      ((cond_last t).mpr h2)]
    rw [leaves_flushed m c 3 t (idle_row t h2), leaves_flushed m c 4 t (idle_col t h2)]
    simp only [before0_3 m c t h2, before0_4 m c t h2]
    rw [show scrX m c t.val = scrX m c (t.val - 1) by unfold scrX inX inR; rw [pt_last t h2],
      show scrI m c t.val = scrI m c (t.val - 1) by unfold scrI amaxAt inX inR; rw [pt_last t h2]]
    iintro ⟨⟨⟨HS0, HS1⟩, Hg⟩, Ho, ⟨%d0, H0⟩, ⟨%d1, H1⟩, ⟨%d2, H2⟩, ⟨%d3, H3⟩, ⟨%d4, H4⟩⟩
    iapply (wp_bodyLast Variants.none c none Set.univ (ms0_2 t) _ scM0_0 scM0_1 (scrX m c (t.val - 1)) (scrI m c (t.val - 1)) _)
    isplitl [H2]; · iexists _; iexact H2
    isplitl [HS0]; · iexact HS0
    isplitl [HS1]; · iexact HS1
    iintro ⟨H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, show cfg0.N = 16 + 1 from N_0, PhiS_succ, PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.Rotate.Gen

end
-- ==== Proof.RotateIdealFrame.lean ====
/- The rotation kernel's run, from its body (`Proof/RotateLoop.lean`, `Proof/RotateWp.lean`).

   The printed body at a grid point is one of three programs: the first point rotates 256 rows into the scratch, a
   point in between first quantises what the point before rotated, the last only quantises. So the codes of point `t`
   are those of the scratch that point `t - 1` left, and the scales of point `t` those of row tile `min t 15`. At the last
   point the body leaves the two scale windows as it found them, and the pipeline writes them back: they still hold
   what point 15 left, their block not having moved. -/
module

public import proofs.«01_k».proof.Proof.Gen.RotateIdeal.Frame
public import proofs.«01_k».proof.Proof.Gen.RotateIdeal.Skeleton
public import proofs.«01_k».proof.Proof.RotateWp
public import Idealize.ShloMosaic.Lib.Pipeline.Regions
public import Idealize.ShloMosaic.Lib.Claim

@[expose] public section

set_option maxRecDepth 65536

noncomputable section

namespace Cert.RotateIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Rotation (bodyFirst bodyMiddle bodyLast rotN rotated quantised maxAll rowTile colTile invTile
  wp_bodyFirst wp_bodyMiddle wp_bodyLast)

variable {F : FTy → Type} [FloatOps F]

local notation "𝕄" => MT nD τ sig Unit (Elt F) ℕ (UR sig nD τ) ℕ

/-! ## The printed body is the loop -/

section Body

variable (i : grid0.Coords) (arg1 : Memref sig .tc .vmem S256x15360 .bf16) (harg1 : arg1.IsWhole)
  (arg2 : Memref sig .tc .vmem S120x256x256 .bf16) (harg2 : arg2.IsWhole)
  (arg3 : Memref sig .tc .vmem S256x15360 .fp8e4m3) (harg3 : arg3.IsWhole)
  (arg4 : Memref sig .tc .vmem S1x1x256 .f32) (harg4 : arg4.IsWhole)
  (arg5 : Memref sig .tc .vmem S256x128 .f32) (harg5 : arg5.IsWhole)
  (arg6 : Memref sig .tc .vmem S256x15360 .f32) (harg6 : arg6.IsWhole)
  (arg7 : Memref sig .tc .vmem S256x128 .f32) (harg7 : arg7.IsWhole)

theorem body_first (h1 : k0_cond1 i = 1#1) (h2 : ¬ k0_cond2 i = 1#1) (h3 : ¬ k0_cond3 i = 1#1) :
    cc0_rotate_quant (F := F) i arg1 harg1 arg2 harg2 arg3 harg3 arg4 harg4 arg5 harg5 arg6 harg6 arg7 harg7
      = bodyFirst arg1 arg2 arg4 arg5 arg6 arg7 := by
  rw [cc0_rotate_quant_eq_skeleton]
  unfold cc0_rotate_quant_skel
  rw [dif_pos h1, dif_neg h2, dif_neg h3]
  chain_rfl

theorem body_middle (h1 : ¬ k0_cond1 i = 1#1) (h2 : k0_cond2 i = 1#1) (h3 : ¬ k0_cond3 i = 1#1) :
    cc0_rotate_quant (F := F) i arg1 harg1 arg2 harg2 arg3 harg3 arg4 harg4 arg5 harg5 arg6 harg6 arg7 harg7
      = bodyMiddle arg1 arg2 arg3 harg3 arg4 arg5 arg6 arg7 := by
  rw [cc0_rotate_quant_eq_skeleton]
  unfold cc0_rotate_quant_skel
  rw [dif_neg h1, dif_pos h2, dif_neg h3]
  chain_rfl

theorem body_last (h1 : ¬ k0_cond1 i = 1#1) (h2 : ¬ k0_cond2 i = 1#1) (h3 : k0_cond3 i = 1#1) :
    cc0_rotate_quant (F := F) i arg1 harg1 arg2 harg2 arg3 harg3 arg4 harg4 arg5 harg5 arg6 harg6 arg7 harg7
      = bodyLast arg3 harg3 arg6 arg7 := by
  rw [cc0_rotate_quant_eq_skeleton]
  unfold cc0_rotate_quant_skel
  rw [dif_neg h1, dif_neg h2, dif_pos h3]
  chain_rfl

end Body

/-! ## Which case a point is in, and where a window is idle -/

theorem cond_first : ∀ t : Fin cfg0.N, k0_cond1 (grid0.coords t) = 1#1 ↔ t.val = 0 :=
  (by decide +kernel : ∀ t : Fin grid0.N, k0_cond1 (grid0.coords t) = 1#1 ↔ t.val = 0)

theorem cond_middle : ∀ t : Fin cfg0.N, k0_cond2 (grid0.coords t) = 1#1 ↔ (1 ≤ t.val ∧ t.val ≤ 15) :=
  (by decide +kernel : ∀ t : Fin grid0.N, k0_cond2 (grid0.coords t) = 1#1 ↔ (1 ≤ t.val ∧ t.val ≤ 15))

theorem cond_last : ∀ t : Fin cfg0.N, k0_cond3 (grid0.coords t) = 1#1 ↔ t.val = 16 :=
  (by decide +kernel : ∀ t : Fin grid0.N, k0_cond3 (grid0.coords t) = 1#1 ↔ t.val = 16)

theorem idle_codes : ∀ t : Fin cfg0.N, t.val = 0 → cfg0.idle 2 (grid0.coords t) = true ∧ (cfg0.win 2).flush t = false := by
  decide +kernel
theorem live_codes : ∀ t : Fin cfg0.N, t.val ≠ 0 → cfg0.idle 2 (grid0.coords t) = false := by decide +kernel
theorem live_row : ∀ t : Fin cfg0.N, t.val ≤ 15 → cfg0.idle 3 (grid0.coords t) = false := by decide +kernel
theorem live_col : ∀ t : Fin cfg0.N, t.val ≤ 15 → cfg0.idle 4 (grid0.coords t) = false := by decide +kernel
theorem idle_row : ∀ t : Fin cfg0.N, t.val = 16 → cfg0.idle 3 (grid0.coords t) = true ∧ (cfg0.win 3).flush t = true := by
  decide +kernel
theorem idle_col : ∀ t : Fin cfg0.N, t.val = 16 → cfg0.idle 4 (grid0.coords t) = true ∧ (cfg0.win 4).flush t = true := by
  decide +kernel
theorem keep_row : ∀ t : Fin cfg0.N, t.val = 15 → (cfg0.win 3).flush t = false := by decide +kernel
theorem keep_col : ∀ t : Fin cfg0.N, t.val = 15 → (cfg0.win 4).flush t = false := by decide +kernel

/-! ## What every point leaves -/

variable (m : (ℓ : Loc nD τ sig) → Buf (Elt F) ℓ) (ρ : Dev nD → PrngReg)

/-- The point whose row tile point `n` holds: itself, but 15 at the last. -/
abbrev pt (n : ℕ) : Fin cfg0.N := ⟨min n 15, lt_of_lt_of_eq (by omega : min n 15 < 17) N_0.symm⟩

abbrev inX (c : Dev nD) (n : ℕ) : Vec F S256x15360 .bf16 := iblk m c 0 (pt n)
abbrev inR (c : Dev nD) (n : ℕ) : Vec F S120x256x256 .bf16 := iblk m c 1 (pt n)

/-- The rotated rows point `n` leaves, the largest absolute values, the inverse scale. -/
def scrX (c : Dev nD) (n : ℕ) : Vec F S256x15360 .f32 := rotated (inX m c n) (inR m c n)
def amaxAt (c : Dev nD) (n : ℕ) : Vec F S256x128 .f32 := maxAll (rotN (inX m c n) (inR m c n))
def scrI (c : Dev nD) (n : ℕ) : Vec F S256x128 .f32 := invTile (amaxAt m c n)

abbrev ms0_0 (t : Fin cfg0.N) : Memref sig .tc .vmem S256x15360 .bf16 := win0_0.stage (cfg0.slots t 0)
abbrev ms0_1 (t : Fin cfg0.N) : Memref sig .tc .vmem S120x256x256 .bf16 := win0_1.stage (cfg0.slots t 1)
abbrev ms0_2 (t : Fin cfg0.N) : Memref sig .tc .vmem S256x15360 .fp8e4m3 := win0_2.stage (cfg0.slots t 2)
abbrev ms0_3 (t : Fin cfg0.N) : Memref sig .tc .vmem S1x1x256 .f32 := win0_3.stage (cfg0.slots t 3)
abbrev ms0_4 (t : Fin cfg0.N) : Memref sig .tc .vmem S256x128 .f32 := win0_4.stage (cfg0.slots t 4)
abbrev scM0_0 : Memref sig .tc .vmem S256x15360 .f32 := Memref.whole cc0_scratch0
abbrev scM0_1 : Memref sig .tc .vmem S256x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The invariant before point `n`: the scratch at what the point before left, at anything before the first. -/
def PhiS (c : Dev nD) : ℕ → sProp 𝕄
  | 0 => Pipeline.ΦA spec0 c
  | n + 1 => iprop(iprop(owns (c : Thread nD τ) scM0_0 fullShare (scrX m c n) ∗ owns (c : Thread nD τ) scM0_1 fullShare (scrI m c n))
      ∗ (∃ r, prngReg c r))

theorem PhiS_succ (c : Dev nD) (n : ℕ) :
    PhiS m c (n + 1) = iprop(iprop(owns (c : Thread nD τ) scM0_0 fullShare (scrX m c n) ∗ owns (c : Thread nD τ) scM0_1 fullShare (scrI m c n))
      ∗ (∃ r, prngReg c r)) := rfl

theorem PhiS_pos (c : Dev nD) (n : ℕ) (h : n ≠ 0) : PhiS m c n = PhiS m c (n - 1 + 1) := by
  rw [Nat.sub_add_cancel (Nat.one_le_iff_ne_zero.mpr h)]

/-- The proof data: inputs at their blocks, the codes of the scratch the point before left, the scales of the
    point's row tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => quantised (scrX m c (t.val - 1)) (scrI m c (t.val - 1))
    | ⟨3, _⟩ => rowTile (amaxAt m c t.val)
    | ⟨4, _⟩ => colTile (amaxAt m c t.val)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = quantised (scrX m c (t.val - 1)) (scrI m c (t.val - 1)) := by dsimp only [dats]
theorem after0_3 (c : Dev nD) (t : Fin cfg0.N) : (dats m 0 c).after 3 t = rowTile (amaxAt m c t.val) := by dsimp only [dats]
theorem after0_4 (c : Dev nD) (t : Fin cfg0.N) : (dats m 0 c).after 4 t = colTile (amaxAt m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- An output not written back at the point before, and stored into there, still holds what that point left. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t ht ((cfg0.win w).fetch_out hw t), hfl, if_neg Bool.false_ne_true]
  unfold Dat.left; rw [hl]; unfold Dat.kept
  rw [Pipeline.fill_of_clip_none w _ (hclip _) d ((dats m 0 c).after w _), Pipeline.Window.fill_cut]

/-- The scale windows move with `min t 15`: the last two points leave the same. -/
theorem pt_last (t : Fin cfg0.N) (ht : t.val = 16) : pt (t.val - 1) = pt t.val :=
  Fin.ext (by show min (t.val - 1) 15 = min t.val 15; omega)

/-- At the last point the scale windows still hold what point 15 left. -/
theorem before0_3 (c : Dev nD) (t : Fin cfg0.N) (ht : t.val = 16) (d) : (dats m 0 c).before 3 t d = (dats m 0 c).after 3 t := by
  rw [before_kept m c 3 rfl t (by omega) (keep_row _ (by show t.val - 1 = 15; omega)) (live_row _ (by show t.val - 1 ≤ 15; omega))
    (fun _ _ => rfl) d, after0_3, after0_3]
  unfold amaxAt inX inR; rw [pt_last t ht]
theorem before0_4 (c : Dev nD) (t : Fin cfg0.N) (ht : t.val = 16) (d) : (dats m 0 c).before 4 t d = (dats m 0 c).after 4 t := by
  rw [before_kept m c 4 rfl t (by omega) (keep_col _ (by show t.val - 1 = 15; omega)) (live_col _ (by show t.val - 1 ≤ 15; omega))
    (fun _ _ => rfl) d, after0_4, after0_4]
  unfold amaxAt inX inR; rw [pt_last t ht]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

theorem leaves_flushed (c : Dev nD) (w : Fin cfg0.W) (t : Fin cfg0.N) (h : cfg0.idle w (grid0.coords t) = true ∧ (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h.1, h.2]

theorem iblk_pt (c : Dev nD) (t : Fin cfg0.N) (h : t.val ≤ 15) : pt t.val = t := Fin.ext (by show min t.val 15 = t.val; omega)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl, PhiS_succ]
  rw [show (dats m 0 c).Φ t.castSucc = PhiS m c t.val from rfl]
  rw [leaves_live m c 0 t rfl, leaves_live m c 1 t rfl, after0_0, after0_1]
  have hN : t.val < 17 := lt_of_lt_of_eq t.isLt (show cfg0.N = 17 from N_0)
  by_cases h0 : t.val = 0
  · rw [body_first _ _ _ _ _ _ _ _ _ _ _ _ _ _ _ ((cond_first t).mpr h0) (fun h => by have := (cond_middle t).mp h; omega)
      (fun h => by have := (cond_last t).mp h; omega)]
    rw [Dat.leavesExact_idle (dats m 0 c) 2 t (idle_codes t h0).1 (idle_codes t h0).2]
    rw [leaves_live m c 3 t (live_row t (by omega)), leaves_live m c 4 t (live_col t (by omega)), after0_3, after0_4]
    rw [show PhiS m c t.val = Pipeline.ΦA spec0 c by rw [h0]; rfl, PhiA0_eq]
    unfold scrI scrX amaxAt inX inR
    rw [iblk_pt c t (by omega)]
    iintro ⟨⟨⟨HS0, HS1⟩, Hg⟩, Ho, ⟨%d0, H0⟩, ⟨%d1, H1⟩, ⟨%d2, H2⟩, ⟨%d3, H3⟩, ⟨%d4, H4⟩⟩
    iapply (wp_bodyFirst Variants.none c none Set.univ (ms0_0 t) (ms0_1 t) (ms0_3 t) (ms0_4 t) scM0_0 scM0_1 (iblk m c 0 t) (iblk m c 1 t) _)
    isplitl [H0]; · iexact H0
    isplitl [H1]; · iexact H1
    isplitl [H3]; · iexists _; iexact H3
    isplitl [H4]; · iexists _; iexact H4
    isplitl [HS0]; · iexact HS0
    isplitl [HS1]; · iexact HS1
    iintro ⟨H0, H1, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexists _; iexact H2
    isplitl [H3]; · iexact H3
    iexact H4
  rw [PhiS_pos m c t.val h0, PhiS_succ, leaves_live m c 2 t (live_codes t h0), after0_2]
  by_cases h1 : t.val ≤ 15
  · rw [body_middle _ _ _ _ _ _ _ _ _ _ _ _ _ _ _ (fun h => h0 ((cond_first t).mp h)) ((cond_middle t).mpr ⟨by omega, h1⟩)
      (fun h => by have := (cond_last t).mp h; omega)]
    rw [leaves_live m c 3 t (live_row t h1), leaves_live m c 4 t (live_col t h1), after0_3, after0_4]
    rw [show scrX m c t.val = rotated (iblk m c 0 t) (iblk m c 1 t) by unfold scrX inX inR; rw [iblk_pt c t h1],
      show scrI m c t.val = invTile (amaxAt m c t.val) from rfl,
      show amaxAt m c t.val = maxAll (rotN (iblk m c 0 t) (iblk m c 1 t)) by unfold amaxAt inX inR; rw [iblk_pt c t h1]]
    iintro ⟨⟨⟨HS0, HS1⟩, Hg⟩, Ho, ⟨%d0, H0⟩, ⟨%d1, H1⟩, ⟨%d2, H2⟩, ⟨%d3, H3⟩, ⟨%d4, H4⟩⟩
    iapply (wp_bodyMiddle Variants.none c none Set.univ (ms0_0 t) (ms0_1 t) (ms0_2 t) _ (ms0_3 t) (ms0_4 t) scM0_0 scM0_1
      (iblk m c 0 t) (iblk m c 1 t) (scrX m c (t.val - 1)) (scrI m c (t.val - 1)) _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4
  · have h2 : t.val = 16 := by omega
    rw [body_last _ _ _ _ _ _ _ _ _ _ _ _ _ _ _ (fun h => h0 ((cond_first t).mp h)) (fun h => by have := (cond_middle t).mp h; omega)
      ((cond_last t).mpr h2)]
    rw [leaves_flushed m c 3 t (idle_row t h2), leaves_flushed m c 4 t (idle_col t h2)]
    simp only [before0_3 m c t h2, before0_4 m c t h2]
    rw [show scrX m c t.val = scrX m c (t.val - 1) by unfold scrX inX inR; rw [pt_last t h2],
      show scrI m c t.val = scrI m c (t.val - 1) by unfold scrI amaxAt inX inR; rw [pt_last t h2]]
    iintro ⟨⟨⟨HS0, HS1⟩, Hg⟩, Ho, ⟨%d0, H0⟩, ⟨%d1, H1⟩, ⟨%d2, H2⟩, ⟨%d3, H3⟩, ⟨%d4, H4⟩⟩
    iapply (wp_bodyLast Variants.none c none Set.univ (ms0_2 t) _ scM0_0 scM0_1 (scrX m c (t.val - 1)) (scrI m c (t.val - 1)) _)
    isplitl [H2]; · iexists _; iexact H2
    isplitl [HS0]; · iexact HS0
    isplitl [HS1]; · iexact HS1
    iintro ⟨H2, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, show cfg0.N = 16 + 1 from N_0, PhiS_succ, PhiA0_eq]
  iintro ⟨⟨HS0, HS1⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.RotateIdeal.Gen

end
-- ==== Proof.RotateExponent.lean ====
/- The exponent field of a nonnegative extended real, found by eight comparisons and found by counting.

   `pw k` is what the 32-bit word with exponent field `k` and nothing else denotes: 0 for `k = 0`, `2 ^ (k - 127)` for
   `k` up to 254, infinity for 255. The rotation kernel tries the field's bits from the greatest down (`expBits`); its
   reference counts the powers of two that are at most `q`. Both find the greatest `k` with `pw k ≤ q` (`IsField`). -/
module

public import proofs.«01_k».proof.Proof.RotateLoop
public import Idealize.ShloMosaic.PureOps.Ideal
public import Idealize.ShloMosaic.Lib.Pointwise

@[expose] public section

noncomputable section

namespace Cert.Rotation

open Idealize.ShloMosaic

/-- What the word of exponent field `k` denotes. -/
def pw (k : ℕ) : EReal := Ideal.ofBits .f32 (BitVec.ofNat 32 k <<< 23)

theorem word_fields : ∀ k : Fin 256,
    ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- A positive word with an empty fraction, by its exponent field. -/
theorem ieee_field {b : BitVec 32} {k : ℕ} (h1 : (b.extractLsb' 31 1 == 1#1) = false)
    (h2 : (b.extractLsb' 23 8).toNat = k) (h3 : (b.extractLsb' 0 23).toNat = 0) :
    Ideal.ofBits .f32 b = if k = 255 then ⊤ else if k = 0 then 0 else (((2 : ℝ) ^ ((k : ℤ) - 127) : ℝ) : EReal) := by
  show Ideal.ieee 8 23 b = _
  unfold Ideal.ieee
  simp only [show (8 + 23) = 31 from rfl, h1, h2, h3, if_true, Bool.false_eq_true, if_false]
  by_cases hk : k = 255
  · rw [if_pos (by rw [hk]; norm_num), if_pos hk]
  rw [if_neg (by omega), if_neg hk]
  by_cases h0 : k = 0
  · rw [if_pos h0, if_pos h0]; simp
  rw [if_neg h0, if_neg h0]
  congr 1
  have e : ((k : ℤ) - (2 ^ (8 - 1) - 1) - (23 : ℕ)) = ((k : ℤ) - 127) + (-23) := by norm_num; ring
  rw [e, zpow_add₀ (by norm_num)]
  norm_num
  ring

theorem pw_eq (k : ℕ) (h : k ≤ 255) :
    pw k = if k = 255 then ⊤ else if k = 0 then 0 else (((2 : ℝ) ^ ((k : ℤ) - 127) : ℝ) : EReal) := by
  obtain ⟨h1, h2, h3⟩ := word_fields ⟨k, by omega⟩
  exact ieee_field h1 h2 h3

theorem pw_zero : pw 0 = 0 := by rw [pw_eq 0 (by omega), if_neg (by omega), if_pos rfl]

theorem pw_top : pw 255 = ⊤ := by rw [pw_eq 255 (by omega), if_pos rfl]

theorem pw_normal (k : ℕ) (h0 : k ≠ 0) (h : k < 255) : pw k = (((2 : ℝ) ^ ((k : ℤ) - 127) : ℝ) : EReal) := by
  rw [pw_eq k (by omega), if_neg (by omega), if_neg h0]

theorem pw_nonneg (k : ℕ) (h : k ≤ 255) : 0 ≤ pw k := by
  rcases Nat.eq_zero_or_pos k with rfl | h0
  · rw [pw_zero]
  rcases Nat.lt_or_ge k 255 with h1 | h1
  · rw [pw_normal k (by omega) h1]; exact_mod_cast (by positivity : (0 : ℝ) ≤ (2 : ℝ) ^ ((k : ℤ) - 127))
  · rw [show k = 255 by omega, pw_top]; exact le_top

theorem pw_mono {j k : ℕ} (h : j ≤ k) (hk : k ≤ 255) : pw j ≤ pw k := by
  rcases Nat.eq_zero_or_pos j with rfl | h0
  · rw [pw_zero]; exact pw_nonneg k hk
  rcases Nat.lt_or_ge k 255 with h1 | h1
  · rw [pw_normal k (by omega) h1, pw_normal j (by omega) (by omega)]
    exact_mod_cast zpow_le_zpow_right₀ (by norm_num : (1 : ℝ) ≤ 2) (by omega : (j : ℤ) - 127 ≤ (k : ℤ) - 127)
  · rw [show k = 255 by omega, pw_top]; exact le_top

/-- `b` is the exponent field of `q`: the greatest whose power is at most `q`. -/
def IsField (q : EReal) (b : ℕ) : Prop := b ≤ 255 ∧ ∀ k, k ≤ 255 → (pw k ≤ q ↔ k ≤ b)

/-- Between searches: the field is at least `b` and less than `b + w`. -/
def Within (q : EReal) (b w : ℕ) : Prop := pw b ≤ q ∧ ∀ k, b + w ≤ k → k ≤ 255 → ¬ pw k ≤ q

/-- One comparison halves the interval. -/
theorem Within.step {q : EReal} {b w : ℕ} (h : Within q b (2 * w)) (hb : b + 2 * w ≤ 256) (hw : 0 < w) :
    Within q (if pw (b + w) ≤ q then b + w else b) w := by
  split
  · next hq => exact ⟨hq, fun k hk h' => h.2 k (by omega) h'⟩
  · next hq => exact ⟨h.1, fun k hk h' hle => hq ((pw_mono hk h').trans hle)⟩

theorem Within.field {q : EReal} {b : ℕ} (h : Within q b 1) (hb : b ≤ 255) : IsField q b :=
  ⟨hb, fun k hk => ⟨fun hle => by
    by_contra hlt
    exact h.2 k (by omega) hk hle, fun hle => (pw_mono hle hb).trans h.1⟩⟩

/-! ## The kernel's search -/

theorem shl_word (k : ℕ) : IntOp.shli .vector (BitVec.ofNat 32 k) 23#32 = BitVec.ofNat 32 k <<< 23 := by
  unfold IntOp.shli; rw [if_pos (by decide)]; rfl

/-- One step of the search, on words that hold naturals. -/
theorem bitStep_apply (q : FVec Ideal S256x1 .f32) (eb : IVec S256x1 32) (i : S256x1.Idx) (b w : ℕ)
    (he : eb i = BitVec.ofNat 32 b) :
    bitStep q eb (BitVec.ofNat 32 w) i = BitVec.ofNat 32 (if pw (b + w) ≤ q i then b + w else b) := by
  have hs : (addi eb (broadcast S256x1 (BitVec.ofNat 32 w))) i = BitVec.ofNat 32 (b + w) := by
    show eb i + BitVec.ofNat 32 w = _
    rw [he, BitVec.ofNat_add]
  have hp : (bitcastToFloat (F := Ideal) .f32 (shli (addi eb (broadcast S256x1 (BitVec.ofNat 32 w))) (broadcast S256x1 23#32))) i
      = pw (b + w) := by
    show Ideal.ofBits .f32 (IntOp.shli .vector ((addi eb (broadcast S256x1 (BitVec.ofNat 32 w))) i) 23#32) = _
    rw [hs, shl_word]; rfl
  unfold bitStep
  show (if _ = 1#1 then _ else _) = _
  rw [hs, he]
  show (if (BitVec.ofBool (decide ((bitcastToFloat (F := Ideal) .f32
    (shli (addi eb (broadcast S256x1 (BitVec.ofNat 32 w))) (broadcast S256x1 23#32))) i ≤ q i))) = 1#1 then _ else _) = _
  rw [hp]
  by_cases hq : pw (b + w) ≤ q i
  · rw [if_pos (by simp [hq]), if_pos hq]
  · rw [if_neg (by simp [hq]), if_neg hq]

/-- The kernel's eight comparisons find the field. -/
theorem expBits_apply (q : FVec Ideal S256x1 .f32) (i : S256x1.Idx) (h0 : 0 ≤ q i) :
    ∃ b, IsField (q i) b ∧ expBits q i = BitVec.ofNat 32 b := by
  have w0 : Within (q i) 0 (2 * 128) := ⟨by rw [pw_zero]; exact h0, fun k h1 h2 => by omega⟩
  have s0 : (broadcast S256x1 0#32 : IVec S256x1 32) i = BitVec.ofNat 32 0 := rfl
  have up : ∀ (b w : ℕ) (P : Prop) [Decidable P], b + 2 * w ≤ 256 → (if P then b + w else b) + w ≤ 256 := by
    intro b w P _ h; split <;> omega
  have s1 := bitStep_apply q _ i 0 128 s0
  have w1 := w0.step (by omega) (by omega)
  have u1 := up 0 128 (pw (0 + 128) ≤ q i) (by omega)
  generalize (if pw (0 + 128) ≤ q i then 0 + 128 else 0) = b1 at s1 w1 u1
  have s2 := bitStep_apply q _ i b1 64 s1
  have w2 := Within.step (w := 64) w1 (by omega) (by omega)
  have u2 := up b1 64 (pw (b1 + 64) ≤ q i) (by omega)
  generalize (if pw (b1 + 64) ≤ q i then b1 + 64 else b1) = b2 at s2 w2 u2
  have s3 := bitStep_apply q _ i b2 32 s2
  have w3 := Within.step (w := 32) w2 (by omega) (by omega)
  have u3 := up b2 32 (pw (b2 + 32) ≤ q i) (by omega)
  generalize (if pw (b2 + 32) ≤ q i then b2 + 32 else b2) = b3 at s3 w3 u3
  have s4 := bitStep_apply q _ i b3 16 s3
  have w4 := Within.step (w := 16) w3 (by omega) (by omega)
  have u4 := up b3 16 (pw (b3 + 16) ≤ q i) (by omega)
  generalize (if pw (b3 + 16) ≤ q i then b3 + 16 else b3) = b4 at s4 w4 u4
  have s5 := bitStep_apply q _ i b4 8 s4
  have w5 := Within.step (w := 8) w4 (by omega) (by omega)
  have u5 := up b4 8 (pw (b4 + 8) ≤ q i) (by omega)
  generalize (if pw (b4 + 8) ≤ q i then b4 + 8 else b4) = b5 at s5 w5 u5
  have s6 := bitStep_apply q _ i b5 4 s5
  have w6 := Within.step (w := 4) w5 (by omega) (by omega)
  have u6 := up b5 4 (pw (b5 + 4) ≤ q i) (by omega)
  generalize (if pw (b5 + 4) ≤ q i then b5 + 4 else b5) = b6 at s6 w6 u6
  have s7 := bitStep_apply q _ i b6 2 s6
  have w7 := Within.step (w := 2) w6 (by omega) (by omega)
  have u7 := up b6 2 (pw (b6 + 2) ≤ q i) (by omega)
  generalize (if pw (b6 + 2) ≤ q i then b6 + 2 else b6) = b7 at s7 w7 u7
  have s8 := bitStep_apply q _ i b7 1 s7
  have w8 := Within.step (w := 1) w7 (by omega) (by omega)
  have u8 := up b7 1 (pw (b7 + 1) ≤ q i) (by omega)
  generalize (if pw (b7 + 1) ≤ q i then b7 + 1 else b7) = b8 at s8 w8 u8
  exact ⟨b8, w8.field (by omega), s8⟩

/-- The exponent field of the scale, from that of `q`: one more inside the range in which the scale and its inverse
    are both normal, that of 1 outside; and the field of its inverse. -/
def sclField (b : ℕ) : ℕ := if b = 0 ∨ 253 ≤ b then 127 else b + 1
def invField (b : ℕ) : ℕ := if b = 0 ∨ 253 ≤ b then 127 else 253 - b

theorem expo_words : ∀ b : Fin 256, ∀ f e : BitVec 32,
    f = (if IntOp.cmpi .sge (BitVec.ofNat 32 b.val) 253#32 = 1#1 then 255#32 else BitVec.ofNat 32 b.val) →
    e = (if IntOp.ori (IntOp.cmpi .eq f 0#32) (IntOp.cmpi .eq f 255#32) = 1#1 then 0#32 else IntOp.subi f 126#32) →
    IntOp.addi e 127#32 = BitVec.ofNat 32 (sclField b.val) ∧ IntOp.subi 127#32 e = BitVec.ofNat 32 (invField b.val) := by
  intro b f e hf he
  subst hf; subst he
  revert b; decide +kernel

/-- The two words the kernel makes its scales of. -/
theorem expo_apply (a : FVec Ideal S256x128 .f32) (i : S256x1.Idx) (h0 : 0 ≤ amaxQ a i) :
    ∃ b, IsField (amaxQ a i) b ∧ IntOp.addi (expo (amaxQ a) i) 127#32 = BitVec.ofNat 32 (sclField b)
      ∧ IntOp.subi 127#32 (expo (amaxQ a) i) = BitVec.ofNat 32 (invField b) := by
  obtain ⟨b, hb, he⟩ := expBits_apply (amaxQ a) i h0
  refine ⟨b, hb, ?_⟩
  refine expo_words ⟨b, by have := hb.1; omega⟩ (expField (amaxQ a) i) (expo (amaxQ a) i) ?_ rfl
  show (if IntOp.cmpi .sge (expBits (amaxQ a) i) 253#32 = 1#1 then 255#32 else expBits (amaxQ a) i) = _
  rw [he]

/-! ## The reference's count -/

theorem count_lt (n b : ℕ) : (∑ j ∈ Finset.range n, if j + 1 ≤ b then 1 else 0) = min b n := by
  induction n with
  | zero => simp
  | succ n ih => rw [Finset.sum_range_succ, ih]; split <;> omega

/-- A sum of words that hold naturals holds their sum. -/
theorem fold_addi {ι : Type} (s : Finset ι) (g : ι → ℕ) :
    s.fold IntOp.addi 0#32 (fun k => BitVec.ofNat 32 (g k)) = BitVec.ofNat 32 (∑ k ∈ s, g k) := by
  classical
  induction s using Finset.induction_on with
  | empty => rfl
  | insert a s ha ih => rw [Finset.fold_insert ha, ih, Finset.sum_insert ha, BitVec.ofNat_add]; rfl

/-- The reference's powers of two are the words' values. -/
theorem power_toInt : ∀ j : Fin 253, (4294967170#32 + BitVec.ofNat 32 j.val).toInt = (j.val : ℤ) - 126 := by decide +kernel

theorem pow_two_int (z : ℤ) : Ideal.pow (2 : ℝ) ((z : ℝ) : EReal) = (((2 : ℝ) ^ z : ℝ) : EReal) := by
  show ((Real.rpow 2 (z : ℝ) : ℝ) : EReal) = _
  rw [show Real.rpow 2 (z : ℝ) = (2 : ℝ) ^ (z : ℝ) from rfl, Real.rpow_intCast]

theorem power_eq (j : Fin 253) :
    Ideal.pow (2 : ℝ) (((4294967170#32 + BitVec.ofNat 32 j.val).toInt : ℝ) : EReal) = pw (j.val + 1) := by
  rw [power_toInt, pow_two_int, pw_normal _ (by omega) (by omega)]
  congr 2; push_cast; ring

/-- The count of the powers at most `q`. -/
theorem count_eq {q : EReal} {b : ℕ} (h : IsField q b) :
    (∑ j : Fin 253, if pw (j.val + 1) ≤ q then 1 else 0) = min b 253 := by
  have e : ∀ j : Fin 253, (if pw (j.val + 1) ≤ q then 1 else 0) = (fun n : ℕ => if n + 1 ≤ b then 1 else 0) j.val := fun j =>
    if_congr (h.2 (j.val + 1) (by omega)) rfl rfl
  rw [Finset.sum_congr rfl fun j _ => e j, Fin.sum_univ_eq_sum_range (fun n : ℕ => if n + 1 ≤ b then 1 else 0) 253, count_lt]

theorem ref_words : ∀ b : Fin 256, ∀ e : BitVec 32,
    e = (if IntOp.ori (IntOp.cmpi .eq (BitVec.ofNat 32 (min b.val 253)) 0#32) (IntOp.cmpi .eq (BitVec.ofNat 32 (min b.val 253)) 253#32) = 1#1
      then 0#32 else IntOp.subi (BitVec.ofNat 32 (min b.val 253)) 126#32) →
    e.toInt = (sclField b.val : ℤ) - 127 ∧ -e.toInt = (invField b.val : ℤ) - 127 := by
  intro b e he
  subst he
  revert b; decide +kernel

theorem sclField_bounds (b : ℕ) : sclField b ≠ 0 ∧ sclField b < 255 := by unfold sclField; split <;> omega
theorem invField_bounds (b : ℕ) : invField b ≠ 0 ∧ invField b < 255 := by unfold invField; split <;> omega

/-- The field is unique. -/
theorem IsField.unique {q : EReal} {a b : ℕ} (ha : IsField q a) (hb : IsField q b) : a = b :=
  Nat.le_antisymm ((hb.2 a ha.1).mp ((ha.2 a ha.1).mpr le_rfl)) ((ha.2 b hb.1).mp ((hb.2 b hb.1).mpr le_rfl))

end Cert.Rotation

end
-- ==== Proof.RotateSpec.lean ====
/- The rotation and the quantiser, written as formulas over the extended reals, and the kernel's tile as those formulas.

   A row of 15360 values is 120 blocks of 128. Block `n` is multiplied by the sum of the four `128×128` quarters of
   matrix `n` (`vAt`); a row's scale comes from its greatest absolute value (`greatest`, `ratio`, `scaleAt`, `invAt`);
   a code is the value times the inverse scale, clipped (`codeAt`). -/
module

public import proofs.«01_k».proof.Proof.RotateWp
public import proofs.«01_k».proof.Proof.RotateExponent

@[expose] public section

noncomputable section

namespace Cert.Rotation

open Idealize.ShloMosaic

/-! ## The formulas -/

/-- Entry `d` of rotated block `n` of row `x`. -/
def vAt (x : Fin 15360 → EReal) (R : S120x256x256.Idx → EReal) (n : Fin 120) (d : Fin 128) : EReal :=
  ((∑ k : Fin 128, x ⟨128 * n.val + k.val, by omega⟩ * R (ix3 n ⟨k.val, by omega⟩ ⟨d.val, by omega⟩))
    + ∑ k : Fin 128, x ⟨128 * n.val + k.val, by omega⟩ * R (ix3 n ⟨128 + k.val, by omega⟩ ⟨d.val, by omega⟩))
  + ((∑ k : Fin 128, x ⟨128 * n.val + k.val, by omega⟩ * R (ix3 n ⟨k.val, by omega⟩ ⟨128 + d.val, by omega⟩))
    + ∑ k : Fin 128, x ⟨128 * n.val + k.val, by omega⟩ * R (ix3 n ⟨128 + k.val, by omega⟩ ⟨128 + d.val, by omega⟩))

/-- Entry `j` of the rotated row. -/
def vRow (x : Fin 15360 → EReal) (R : S120x256x256.Idx → EReal) (j : Fin 15360) : EReal :=
  vAt x R ⟨j.val / 128, by omega⟩ ⟨j.val % 128, by omega⟩

/-- The greatest absolute value of the rotated row. -/
def greatest (x : Fin 15360 → EReal) (R : S120x256x256.Idx → EReal) : EReal :=
  Finset.univ.fold max ⊥ fun j : Fin 15360 => max (vRow x R j) (-(vRow x R j))

/-- That over 448. -/
def ratio (x : Fin 15360 → EReal) (R : S120x256x256.Idx → EReal) : EReal :=
  greatest x R * Ideal.ofBits .f32 0x3B124925#32

open Classical in
/-- The exponent field of `q`. -/
def fieldOf (q : EReal) : ℕ := Nat.findGreatest (fun k => pw k ≤ q) 255

/-- The row's scale, its inverse, and a code. -/
def scaleAt (x : Fin 15360 → EReal) (R : S120x256x256.Idx → EReal) : EReal := pw (sclField (fieldOf (ratio x R)))
def invAt (x : Fin 15360 → EReal) (R : S120x256x256.Idx → EReal) : EReal := pw (invField (fieldOf (ratio x R)))
def codeAt (x : Fin 15360 → EReal) (R : S120x256x256.Idx → EReal) (j : Fin 15360) : EReal :=
  min (Ideal.ofBits .f32 0x43E00000#32) (max (Ideal.ofBits .f32 0xC3E00000#32) (vRow x R j * invAt x R))

theorem fieldOf_isField {q : EReal} (h : 0 ≤ q) : IsField q (fieldOf q) := by
  classical
  have hp : pw 0 ≤ q := by rw [pw_zero]; exact h
  refine ⟨Nat.findGreatest_le _, fun k hk => ⟨fun hle => Nat.le_findGreatest hk hle, fun hle => ?_⟩⟩
  have := Nat.findGreatest_spec (P := fun k => pw k ≤ q) (Nat.zero_le 255) hp
  exact (pw_mono hle (Nat.findGreatest_le _)).trans this

theorem fieldOf_eq {q : EReal} {b : ℕ} (h : 0 ≤ q) (hb : IsField q b) : b = fieldOf q := hb.unique (fieldOf_isField h)

theorem abs_nonneg' (v : EReal) : 0 ≤ max v (-v) := by
  rcases le_total 0 v with h | h
  · exact h.trans (le_max_left _ _)
  · exact (EReal.neg_nonneg.mpr h).trans (le_max_right _ _)

theorem greatest_le {x : Fin 15360 → EReal} {R : S120x256x256.Idx → EReal} {u : EReal} :
    greatest x R ≤ u ↔ ∀ j, max (vRow x R j) (-(vRow x R j)) ≤ u := by
  unfold greatest; rw [Finset.fold_max_le]; simp

theorem greatest_nonneg (x : Fin 15360 → EReal) (R : S120x256x256.Idx → EReal) : 0 ≤ greatest x R :=
  (abs_nonneg' _).trans (greatest_le.mp le_rfl ⟨0, by omega⟩)

theorem ratio_nonneg (x : Fin 15360 → EReal) (R : S120x256x256.Idx → EReal) : 0 ≤ ratio x R := by
  refine EReal.mul_nonneg (greatest_nonneg x R) ?_
  simp [Ideal.ofBits, Ideal.ieee]
  positivity

/-! ## The kernel's tile -/

/-- Row `r` of a tile. -/
abbrev row (X : S256x15360.Idx → EReal) (r : Fin 256) : Fin 15360 → EReal := fun j => X (ix2 r j)

theorem rot_apply (x : Vec Ideal S256x128 .bf16) (r : Vec Ideal S1x256x256 .bf16) (i : Fin 256) (d : Fin 128) :
    rot x r (ix2 i d)
      = ((∑ k : Fin 128, x (ix2 i k) * r (ix3 0 ⟨k.val, by omega⟩ ⟨d.val, by omega⟩))
        + ∑ k : Fin 128, x (ix2 i k) * r (ix3 0 ⟨128 + k.val, by omega⟩ ⟨d.val, by omega⟩))
      + ((∑ k : Fin 128, x (ix2 i k) * r (ix3 0 ⟨k.val, by omega⟩ ⟨128 + d.val, by omega⟩))
        + ∑ k : Fin 128, x (ix2 i k) * r (ix3 0 ⟨128 + k.val, by omega⟩ ⟨128 + d.val, by omega⟩)) := by
  pointwise [rot, dot]

theorem rotN_apply (X : Vec Ideal S256x15360 .bf16) (R : Vec Ideal S120x256x256 .bf16) (n : Fin 120) (i : Fin 256) (d : Fin 128) :
    rotN X R n.val (ix2 i d) = vAt (row X i) R n d := by
  have hx : ∀ k : Fin 128, blkOf X n.val (ix2 i k) = row X i ⟨128 * n.val + k.val, by omega⟩ := fun k =>
    congrArg X (congrArg (ix2 i) (Fin.ext (by show (128 * n.val + k.val) % 15360 = 128 * n.val + k.val; omega)))
  have hr : ∀ a b : Fin 256, matOf R n.val (ix3 0 a b) = R (ix3 n a b) := fun a b =>
    congrArg R (congrArg (fun z : Fin 120 => ix3 z a b) (Fin.ext (by show n.val % 120 = n.val; omega)))
  unfold rotN vAt
  rw [rot_apply]
  simp only [hx, hr]

theorem rotated_apply (X : Vec Ideal S256x15360 .bf16) (R : Vec Ideal S120x256x256 .bf16) (i : Fin 256) (j : Fin 15360) :
    rotated X R (ix2 i j) = vRow (row X i) R j := by
  have h : ∀ v : Vec Ideal S256x128 .f32, ∀ d : Fin 128, shapeCast S256x128 v (by decide) (ix2 i d) = v (ix2 i d) := by
    intro v d; pointwise
  unfold rotated rotS vRow
  exact (h _ _).trans (rotN_apply X R ⟨j.val / 128, by omega⟩ i ⟨j.val % 128, by omega⟩)

theorem maxFrom_le (V : ℕ → FVec Ideal S256x128 .f32) (i : S256x128.Idx) (u : EReal) :
    ∀ (k n : ℕ) (a : FVec Ideal S256x128 .f32),
      maxFrom V k n a i ≤ u ↔ a i ≤ u ∧ ∀ j, j < k → max (V (n + j) i) (-(V (n + j) i)) ≤ u
  | 0, n, a => ⟨fun h => ⟨h, fun j hj => by omega⟩, fun h => h.1⟩
  | k + 1, n, a => by
    unfold maxFrom
    rw [maxFrom_le V i u k (n + 1) _]
    have hm : (maximumf a (absf (V n)) : FVec Ideal S256x128 .f32) i ≤ u ↔ a i ≤ u ∧ max (V n i) (-(V n i)) ≤ u :=
      max_le_iff (a := a i) (b := max (V n i) (-(V n i)))
    rw [hm]
    constructor
    · rintro ⟨⟨h1, h2⟩, h3⟩
      refine ⟨h1, fun j hj => ?_⟩
      rcases j with _ | j
      · exact h2
      · have := h3 j (by omega); rwa [show n + (j + 1) = n + 1 + j by omega]
    · rintro ⟨h1, h2⟩
      refine ⟨⟨h1, h2 0 (by omega)⟩, fun j hj => ?_⟩
      have := h2 (j + 1) (by omega); rwa [show n + 1 + j = n + (j + 1) by omega]

theorem maxAll_le (V : ℕ → FVec Ideal S256x128 .f32) (i : S256x128.Idx) (u : EReal) :
    maxAll V i ≤ u ↔ ∀ j, j < 120 → max (V j i) (-(V j i)) ≤ u := by
  unfold maxAll
  rw [maxFrom_le]
  constructor
  · rintro ⟨h1, h2⟩ j hj
    rcases j with _ | j
    · exact h1
    · have := h2 j (by omega); rwa [show j + 1 = 1 + j by omega]
  · intro h
    exact ⟨h 0 (by omega), fun j hj => h (1 + j) (by omega)⟩

theorem amaxQ_fold (a : FVec Ideal S256x128 .f32) (i : Fin 256) :
    amaxQ a (ix2 i 0) = (Finset.univ.fold max ⊥ fun k : Fin 128 => a (ix2 i k)) * Ideal.ofBits .f32 0x3B124925#32 := by
  have hb : Ideal.ofBits .f32 0xFF800000#32 = ⊥ := by simp [Ideal.ofBits, Ideal.ieee]
  pointwise [amaxQ, hb]

/-- The tile's ratio is the row's. -/
theorem amaxQ_apply (X : Vec Ideal S256x15360 .bf16) (R : Vec Ideal S120x256x256 .bf16) (i : Fin 256) :
    amaxQ (maxAll (rotN X R)) (ix2 i 0) = ratio (row X i) R := by
  rw [amaxQ_fold]
  unfold ratio
  refine congrArg (· * Ideal.ofBits .f32 0x3B124925#32) ?_
  refine eq_of_forall_ge_iff fun u => ?_
  rw [Finset.fold_max_le, greatest_le]
  constructor
  · rintro ⟨-, h⟩ j
    have := (maxAll_le _ _ _).mp (h ⟨j.val % 128, by omega⟩ (Finset.mem_univ _)) (j.val / 128) (by omega)
    rwa [rotN_apply X R ⟨j.val / 128, by omega⟩ i ⟨j.val % 128, by omega⟩] at this
  · intro h
    refine ⟨bot_le, fun d _ => (maxAll_le _ _ _).mpr fun n hn => ?_⟩
    have := h ⟨128 * n + d.val, by omega⟩
    rw [rotN_apply X R ⟨n, hn⟩ i d]
    have e : vRow (row X i) R ⟨128 * n + d.val, by omega⟩ = vAt (row X i) R ⟨n, hn⟩ d := by
      unfold vRow
      congr 1
      · exact Fin.ext (by show (128 * n + d.val) / 128 = n; omega)
      · exact Fin.ext (by show (128 * n + d.val) % 128 = d.val; omega)
    rwa [e] at this

theorem fields_apply (X : Vec Ideal S256x15360 .bf16) (R : Vec Ideal S120x256x256 .bf16) (i : Fin 256) :
    IntOp.addi (expo (amaxQ (maxAll (rotN X R))) (ix2 i 0)) 127#32 = BitVec.ofNat 32 (sclField (fieldOf (ratio (row X i) R)))
    ∧ IntOp.subi 127#32 (expo (amaxQ (maxAll (rotN X R))) (ix2 i 0)) = BitVec.ofNat 32 (invField (fieldOf (ratio (row X i) R))) := by
  have hq := amaxQ_apply X R i
  have h0 := ratio_nonneg (row X i) R
  obtain ⟨b, hb, h1, h2⟩ := expo_apply (maxAll (rotN X R)) (ix2 i 0) (by rw [hq]; exact h0)
  rw [hq] at hb
  rw [← fieldOf_eq h0 hb]
  exact ⟨h1, h2⟩

theorem scaleOf_apply (X : Vec Ideal S256x15360 .bf16) (R : Vec Ideal S120x256x256 .bf16) (i : Fin 256) :
    scaleOf (maxAll (rotN X R)) (ix2 i 0) = scaleAt (row X i) R := by
  show Ideal.ofBits .f32 (IntOp.shli .vector (IntOp.addi (expo (amaxQ (maxAll (rotN X R))) (ix2 i 0)) 127#32) 23#32) = _
  rw [(fields_apply X R i).1, shl_word]
  rfl

theorem invTile_apply (X : Vec Ideal S256x15360 .bf16) (R : Vec Ideal S120x256x256 .bf16) (i : Fin 256) (d : Fin 128) :
    invTile (maxAll (rotN X R)) (ix2 i d) = invAt (row X i) R := by
  have h : ∀ v : FVec Ideal S256x1 .f32, (shapeCast S256x128 (broadcastTo S256x128 (shapeCast S256x1 v (by decide)) (by decide)) (by decide)
      : FVec Ideal S256x128 .f32) (ix2 i d) = v (ix2 i 0) := by
    intro v; pointwise
  unfold invTile
  rw [h]
  show Ideal.ofBits .f32 (IntOp.shli .vector (IntOp.subi 127#32 (expo (amaxQ (maxAll (rotN X R))) (ix2 i 0))) 23#32) = _
  rw [(fields_apply X R i).2, shl_word]
  rfl

theorem colTile_apply (X : Vec Ideal S256x15360 .bf16) (R : Vec Ideal S120x256x256 .bf16) (i : Fin 256) (d : Fin 128) :
    colTile (maxAll (rotN X R)) (ix2 i d) = scaleAt (row X i) R := by
  have h : ∀ v : FVec Ideal S256x1 .f32, (broadcastTo S256x128 (shapeCast S256x1 v (by decide)) (by decide)
      : FVec Ideal S256x128 .f32) (ix2 i d) = v (ix2 i 0) := by
    intro v; pointwise
  unfold colTile
  rw [h, scaleOf_apply]

theorem rowTile_apply (X : Vec Ideal S256x15360 .bf16) (R : Vec Ideal S120x256x256 .bf16) (i : Fin 256) :
    rowTile (maxAll (rotN X R)) (ix3 0 0 i) = scaleAt (row X i) R := by
  have h : ∀ v : FVec Ideal S256x128 .f32, (shapeCast S1x1x256 (extractStridedSlice S1x256 ![0, 0] (transpose S128x256 [1, 0] v (by decide)) (by decide))
    (by decide) : FVec Ideal S1x1x256 .f32) (ix3 0 0 i) = v (ix2 i 0) := by
    intro v; pointwise
  unfold rowTile
  rw [h, colTile_apply]

theorem quantised_apply (X : Vec Ideal S256x15360 .bf16) (R : Vec Ideal S120x256x256 .bf16) (i : Fin 256) (j : Fin 15360) :
    quantised (rotated X R) (invTile (maxAll (rotN X R))) (ix2 i j) = codeAt (row X i) R j := by
  unfold quantised quantN
  show min (Ideal.ofBits .f32 0x43E00000#32) (max (Ideal.ofBits .f32 0xC3E00000#32)
    (rotated X R (ix2 i ⟨(128 * (j.val / 128) + j.val % 128) % 15360, Nat.mod_lt _ (by decide)⟩)
      * invTile (maxAll (rotN X R)) (ix2 i ⟨j.val % 128, Nat.mod_lt _ (by decide)⟩))) = _
  rw [invTile_apply, rotated_apply]
  unfold codeAt
  congr 4
  exact Fin.ext (by show (128 * (j.val / 128) + j.val % 128) % 15360 = j.val; omega)

end Cert.Rotation

end
-- ==== Proof.RotateReferenceHost.lean ====
/- The rotation's reference, over the extended reals: what its host operations and its one whole-array call compute, as
   the formulas of `Proof/RotateSpec.lean`. -/
module

public import proofs.«01_k».proof.Proof.RotateSpec
public import proofs.«01_k».proof.Proof.Gen.RotateReferenceIdeal.Value
public import Idealize.ShloMosaic.Lib.StableHlo.ReadAt
public import Idealize.ShloMosaic.Lib.Pipeline.Value
public import Idealize.ShloMosaic.Lib.Tactic

@[expose] public section

noncomputable section

namespace Cert.RotateReferenceIdeal.Rot

open Idealize.ShloMosaic Idealize.ShloMosaic.TcCoe Idealize.SL.Sem
open Idealize.ShloMosaic.Pipeline (Dat)
open Cert.RotateReferenceIdeal Facts₀ Facts
open Cert.RotateReferenceIdeal.Gen (V hostOps0 hostOps0_1 hostOps0_2)
open Cert.Rotation (vAt vRow greatest ratio scaleAt invAt codeAt pw fieldOf sclField invField)

/-! ## The operations, composed -/

/-- One quarter of every matrix times every block. -/
def piece (x : FVec Ideal S4096x120x128 .f32) (q : FVec Ideal S120x128x128 .f32) : FVec Ideal S4096x120x128 .f32 :=
  transpose S4096x120x128 [2, 0, 1] (Host.dotGeneral dot_S120x128x128_S4096x120x128_S120x128x4096_1_2_2_0_0_1 (some .fp32) q x)
    transposes_S120x128x4096_S4096x120x128_2_0_1

/-- The rotated rows. -/
def refV (x : FVec Ideal S4096x15360 .bf16) (r : FVec Ideal S120x256x256 .bf16) : FVec Ideal S4096x15360 .f32 :=
  shapeCast S4096x15360
    (addf
      (addf
        (piece (extf .f32 (shapeCast S4096x120x128 x shapeCasts_S4096x15360_S4096x120x128) bitsLt_bf16_f32)
          (extractStridedSlice S120x128x128 ![0, 0, 0] (extf .f32 r bitsLt_bf16_f32) slices_S120x256x256_S120x128x128_0_0_0))
        (piece (extf .f32 (shapeCast S4096x120x128 x shapeCasts_S4096x15360_S4096x120x128) bitsLt_bf16_f32)
          (extractStridedSlice S120x128x128 ![0, 128, 0] (extf .f32 r bitsLt_bf16_f32) slices_S120x256x256_S120x128x128_0_128_0)))
      (addf
        (piece (extf .f32 (shapeCast S4096x120x128 x shapeCasts_S4096x15360_S4096x120x128) bitsLt_bf16_f32)
          (extractStridedSlice S120x128x128 ![0, 0, 128] (extf .f32 r bitsLt_bf16_f32) slices_S120x256x256_S120x128x128_0_0_128))
        (piece (extf .f32 (shapeCast S4096x120x128 x shapeCasts_S4096x15360_S4096x120x128) bitsLt_bf16_f32)
          (extractStridedSlice S120x128x128 ![0, 128, 128] (extf .f32 r bitsLt_bf16_f32) slices_S120x256x256_S120x128x128_0_128_128))))
    shapeCasts_S4096x120x128_S4096x15360

/-- The greatest absolute value of each row over 448. -/
def refQ (v : FVec Ideal S4096x15360 .f32) : FVec Ideal S4096x1 .f32 :=
  mulf (broadcastInDim S4096x1 ![0] bcast_S4096_S4096x1_0
      (Host.reduce FloatOps.maximumf (Host.absf v) (constant S_ .f32 0xFF800000#32) reducesTo_S4096x15360_S4096_d1 h_S_))
    (broadcastInDim S4096x1 ![] bcast_S_S4096x1 (constant S_ .f32 0x3B124925#32))

/-- The powers of two. -/
def refPowers : FVec Ideal S253 .f32 :=
  Host.powf (broadcastInDim S253 ![] bcast_S_S253 (constant S_ .f32 0x40000000#32))
    (sitofp .f32 (addi (broadcastInDim S253 ![] bcast_S_S253 (constantI S_ 32 4294967170#32)) (iotaInDim S253 32 0)))

/-- How many of them are at most `q`. -/
def refCount (q : FVec Ideal S4096x1 .f32) : IVec S4096x1 32 :=
  broadcastInDim S4096x1 ![0] bcast_S4096_S4096x1_0
    (Host.reduce IntOp.addi
      (extui 32 (cmpf .oge (broadcastInDim S4096x253 ![0, 1] bcast_S4096x1_S4096x253_0_1 q)
        (broadcastInDim S4096x253 ![0, 1] bcast_S1x253_S4096x253_0_1 (broadcastInDim S1x253 ![1] bcast_S253_S1x253_1 refPowers))) natLt_1_32)
      (constantI S_ 32 0#32) reducesTo_S4096x253_S4096_d1 h_S_)

/-- The scale's exponent. -/
def refExp (n : IVec S4096x1 32) : IVec S4096x1 32 :=
  select (ori (cmpi .eq n (broadcastInDim S4096x1 ![] bcast_S_S4096x1 (constantI S_ 32 0#32)))
      (cmpi .eq n (broadcastInDim S4096x1 ![] bcast_S_S4096x1 (constantI S_ 32 253#32))))
    (broadcastInDim S4096x1 ![] bcast_S_S4096x1 (constantI S_ 32 0#32))
    (subi n (broadcastInDim S4096x1 ![] bcast_S_S4096x1 (constantI S_ 32 126#32)))

/-- Two to it, and two to its negative. -/
def refScale (e : IVec S4096x1 32) : FVec Ideal S4096x1 .f32 :=
  Host.powf (broadcastInDim S4096x1 ![] bcast_S_S4096x1 (constant S_ .f32 0x40000000#32)) (sitofp .f32 e)
def refInv (e : IVec S4096x1 32) : FVec Ideal S4096x1 .f32 :=
  Host.powf (broadcastInDim S4096x1 ![] bcast_S_S4096x1 (constant S_ .f32 0x40000000#32)) (Host.negf (sitofp .f32 e))

variable (m : (ℓ : Loc nD τ sig) → Buf (Elt Ideal) ℓ) (ρ : Dev nD → PrngReg)

abbrev X (c : Dev nD) : FVec Ideal S4096x15360 .bf16 := m ((c : Thread nD τ).loc main_arg0)
abbrev R (c : Dev nD) : FVec Ideal S120x256x256 .bf16 := m ((c : Thread nD τ).loc main_arg1)

theorem V_v18 (c : Dev nD) : V m c main_v18 = refV (X m c) (R m c) := by
  unfold V
  simp only [hostOps0, hostOps0_1, hostOps0_2, List.flatten_cons, List.flatten_nil, List.append_nil, List.cons_append, List.nil_append]
  after_reads_simp
  rfl

/-! ### The operations after the rotation, in three stretches -/

variable (W : Valuation τ sig (Elt Ideal))

theorem tail_v41 : StableHlo.after (hostOps0.drop 19) W (Proc.devRef .tc main_v41)
    = ori (cmpi .eq (refCount (refQ (W (Proc.devRef .tc main_v18)))) (broadcastInDim S4096x1 ![] bcast_S_S4096x1 (constantI S_ 32 0#32)))
      (cmpi .eq (refCount (refQ (W (Proc.devRef .tc main_v18)))) (broadcastInDim S4096x1 ![] bcast_S_S4096x1 (constantI S_ 32 253#32))) := by
  simp only [hostOps0, List.drop_succ_cons, List.drop_zero]
  after_reads_simp
  rfl

theorem tail_v43 : StableHlo.after (hostOps0.drop 19) W (Proc.devRef .tc main_v43)
    = subi (refCount (refQ (W (Proc.devRef .tc main_v18)))) (broadcastInDim S4096x1 ![] bcast_S_S4096x1 (constantI S_ 32 126#32)) := by
  simp only [hostOps0, List.drop_succ_cons, List.drop_zero]
  after_reads_simp
  rfl

theorem tail_c6 : StableHlo.after (hostOps0.drop 19) W (Proc.devRef .tc main_c_6) = constantI S_ 32 0#32 := by
  simp only [hostOps0, List.drop_succ_cons, List.drop_zero]
  after_reads_simp

theorem call_v44 : StableHlo.after hostOps0_1 W (Proc.devRef .tc main_v44)
    = select (W (Proc.devRef .tc main_v41)) (broadcastInDim S4096x1 ![] bcast_S_S4096x1 (W (Proc.devRef .tc main_c_6)))
      (W (Proc.devRef .tc main_v43)) := by
  simp only [hostOps0_1]
  after_reads_simp
  rfl

theorem last_v50 : StableHlo.after hostOps0_2 W (Proc.devRef .tc main_v50) = refInv (W (Proc.devRef .tc main_v44)) := by
  simp only [hostOps0_2]
  after_reads_simp
  rfl

theorem last_v51 : StableHlo.after hostOps0_2 W (Proc.devRef .tc main_v51)
    = shapeCast S16x1x256 (refScale (W (Proc.devRef .tc main_v44))) shapeCasts_S4096x1_S16x1x256 := by
  simp only [hostOps0_2]
  after_reads_simp
  rfl

theorem last_v52 : StableHlo.after hostOps0_2 W (Proc.devRef .tc main_v52)
    = broadcastInDim S4096x128 ![0, 1] bcast_S4096x1_S4096x128_0_1 (refScale (W (Proc.devRef .tc main_v44))) := by
  simp only [hostOps0_2]
  after_reads_simp
  rfl

theorem head_v18 : StableHlo.after (hostOps0.take 19) W (Proc.devRef .tc main_v18)
    = refV (W (Proc.devRef .tc main_arg0)) (W (Proc.devRef .tc main_arg1)) := by
  simp only [hostOps0, List.take_succ_cons, List.take_zero]
  after_reads_simp
  rfl

/-- The exponent of every row. -/
abbrev expOf (c : Dev nD) : IVec S4096x1 32 := refExp (refCount (refQ (refV (X m c) (R m c))))

theorem stretches (c : Dev nD) (b : Ref sig .tc) : V m c b = StableHlo.after hostOps0_2 (StableHlo.after hostOps0_1
    (StableHlo.after (hostOps0.drop 19) (StableHlo.after (hostOps0.take 19) fun b => m (c, b)))) (Proc.devRef .tc b) := by
  show StableHlo.after (List.flatten [hostOps0, hostOps0_1, hostOps0_2]) (fun b => m (c, b)) (Proc.devRef .tc b) = _
  rw [show (List.flatten [hostOps0, hostOps0_1, hostOps0_2] : List (HloOp τ sig (Elt Ideal)))
    = hostOps0.take 19 ++ (hostOps0.drop 19 ++ (hostOps0_1 ++ hostOps0_2)) by
      rw [← List.append_assoc, List.take_append_drop]; simp only [List.flatten_cons, List.flatten_nil, List.append_nil]]
  rw [StableHlo.after_append, StableHlo.after_append, StableHlo.after_append]

theorem v44 (c : Dev nD) : StableHlo.after hostOps0_1
    (StableHlo.after (hostOps0.drop 19) (StableHlo.after (hostOps0.take 19) fun b => m (c, b))) (Proc.devRef .tc main_v44) = expOf m c := by
  rw [call_v44, tail_v41, tail_v43, tail_c6, head_v18]
  rfl

theorem V_v50 (c : Dev nD) : V m c main_v50 = refInv (expOf m c) := by rw [stretches, last_v50, v44]
theorem V_v51 (c : Dev nD) : V m c main_v51 = shapeCast S16x1x256 (refScale (expOf m c)) shapeCasts_S4096x1_S16x1x256 := by
  rw [stretches, last_v51, v44]
theorem V_v52 (c : Dev nD) : V m c main_v52 = broadcastInDim S4096x128 ![0, 1] bcast_S4096x1_S4096x128_0_1 (refScale (expOf m c)) := by
  rw [stretches, last_v52, v44]

end Cert.RotateReferenceIdeal.Rot

end
-- ==== Proof.RotateReferenceValue.lean ====
/- The rotation's reference, over the extended reals: what its host operations and its one whole-array call compute, as
   the formulas of `Proof/RotateSpec.lean`. -/
module

public import proofs.«01_k».proof.Proof.RotateSpec
public import proofs.«01_k».proof.Proof.Gen.RotateReferenceIdeal.Value
public import proofs.«01_k».proof.Proof.RotateReferenceHost
public import Idealize.ShloMosaic.Lib.StableHlo.ReadAt
public import Idealize.ShloMosaic.Lib.Pipeline.Value
public import Idealize.ShloMosaic.Lib.Tactic

@[expose] public section

noncomputable section

namespace Cert.RotateReferenceIdeal.Rot

open Idealize.ShloMosaic Idealize.ShloMosaic.TcCoe Idealize.SL.Sem
open Idealize.ShloMosaic.Pipeline (Dat)
open Cert.RotateReferenceIdeal Facts₀ Facts
open Cert.RotateReferenceIdeal.Gen (V)
open Cert.Rotation (vAt vRow greatest ratio scaleAt invAt codeAt pw fieldOf sclField invField)

/-! ## At an index -/

/-- Row `i` of the whole array. -/
abbrev row (X : FVec Ideal S4096x15360 .bf16) (i : Fin 4096) : Fin 15360 → EReal := fun j => X (ix2 i j)

theorem piece_apply (x : FVec Ideal S4096x120x128 .f32) (q : FVec Ideal S120x128x128 .f32) (i : Fin 4096) (n : Fin 120) (d : Fin 128) :
    piece x q (ix3 i n d) = ∑ k : Fin 128, q (ix3 n k d) * x (ix3 i n k) := by
  pointwise [piece, dot_S120x128x128_S4096x120x128_S120x128x4096_1_2_2_0_0_1]

theorem refV_apply (x : FVec Ideal S4096x15360 .bf16) (r : FVec Ideal S120x256x256 .bf16) (i : Fin 4096) (j : Fin 15360) :
    refV x r (ix2 i j) = vRow (row x i) r j := by
  pointwise [refV, piece_apply]
  unfold vRow vAt
  have e : ∀ k : Fin 128, (⟨j.val / 128 * 128 + k.val, by omega⟩ : Fin 15360) = ⟨128 * (j.val / 128) + k.val, by omega⟩ :=
    fun k => Fin.ext (by show j.val / 128 * 128 + k.val = 128 * (j.val / 128) + k.val; omega)
  simp only [e]
  congr 2 <;> exact Finset.sum_congr rfl fun k _ => mul_comm _ _

/-- A maximum over the second axis, at a row. -/
theorem rowMax (n k : ℕ) (x : FVec Ideal ⟨2, ![n, k]⟩ .f32) (z : FVec Ideal S_ .f32) (h : (⟨2, ![n, k]⟩ : Shape).ReducesTo [1] ⟨1, ![n]⟩)
    (i : Fin n) : (Host.reduce FloatOps.maximumf x z h h_S_ : FVec Ideal ⟨1, ![n]⟩ .f32) (ix1 i)
      = Finset.univ.fold max (z ix0) fun j : Fin k => x (ix2 i j) := by
  pointwise
  rw [show Shape.Idx.first h_S_ = ix0 from funext fun a => a.elim0]

theorem timesWord (y : FVec Ideal S4096 .f32) (w : BitVec 32) (i : Fin 4096) :
    mulf (broadcastInDim S4096x1 ![0] bcast_S4096_S4096x1_0 y) (broadcastInDim S4096x1 ![] bcast_S_S4096x1 (constant S_ .f32 w)) (ix2 i 0)
      = y (ix1 i) * Ideal.ofBits .f32 w := by
  pointwise

theorem refQ_apply (v : FVec Ideal S4096x15360 .f32) (i : Fin 4096) :
    refQ v (ix2 i 0) = (Finset.univ.fold max ⊥ fun j : Fin 15360 => max (v (ix2 i j)) (-(v (ix2 i j)))) * Ideal.ofBits .f32 0x3B124925#32 := by
  have hb : Ideal.ofBits .f32 0xFF800000#32 = ⊥ := by simp [Ideal.ofBits, Ideal.ieee]
  unfold refQ
  rw [timesWord, rowMax 4096 15360, constant_apply, show (FloatOps.ofBits .f32 0xFF800000#32 : Ideal .f32) = ⊥ from hb]
  refine congrArg (· * Ideal.ofBits .f32 0x3B124925#32) (Finset.fold_congr fun j _ => ?_)
  rfl

theorem refQ_ratio (x : FVec Ideal S4096x15360 .bf16) (r : FVec Ideal S120x256x256 .bf16) (i : Fin 4096) :
    refQ (refV x r) (ix2 i 0) = ratio (row x i) r := by
  rw [refQ_apply]
  simp only [refV_apply]
  rfl

theorem two : Ideal.ofBits .f32 0x40000000#32 = ((2 : ℝ) : EReal) := by
  rw [show (0x40000000#32 : BitVec 32) = BitVec.ofNat 32 128 <<< 23 by decide]
  refine (Cert.Rotation.pw_normal 128 (by decide) (by decide)).trans ?_
  norm_num

theorem refPowers_apply (k : Fin 253) : refPowers (ix1 k) = pw (k.val + 1) := by
  rw [← Cert.Rotation.power_eq]
  pointwise [refPowers]
  rw [two]
  rfl

theorem rowSum (n k : ℕ) (x : IVec ⟨2, ![n, k]⟩ 32) (z : IVec S_ 32) (h : (⟨2, ![n, k]⟩ : Shape).ReducesTo [1] ⟨1, ![n]⟩)
    (i : Fin n) : (Host.reduce IntOp.addi x z h h_S_ : IVec ⟨1, ![n]⟩ 32) (ix1 i)
      = Finset.univ.fold IntOp.addi (z ix0) fun j : Fin k => x (ix2 i j) := by
  pointwise
  rw [show Shape.Idx.first h_S_ = ix0 from funext fun a => a.elim0]

theorem refCount_apply (q : FVec Ideal S4096x1 .f32) (i : Fin 4096) :
    refCount q (ix2 i 0) = BitVec.ofNat 32 (∑ k : Fin 253, if pw (k.val + 1) ≤ q (ix2 i 0) then 1 else 0) := by
  have h : ∀ y : IVec S4096 32, broadcastInDim S4096x1 ![0] bcast_S4096_S4096x1_0 y (ix2 i 0) = y (ix1 i) := by
    intro y; pointwise
  unfold refCount
  rw [h, rowSum 4096 253, ← Cert.Rotation.fold_addi]
  refine Finset.fold_congr fun k _ => ?_
  rw [← refPowers_apply]
  generalize refPowers = p
  pointwise
  by_cases hk : p (ix1 k) ≤ q (ix2 i 0) <;> simp [hk]

theorem refExp_at (n : IVec S4096x1 32) (i : Fin 4096) : refExp n (ix2 i 0)
    = if IntOp.ori (IntOp.cmpi .eq (n (ix2 i 0)) 0#32) (IntOp.cmpi .eq (n (ix2 i 0)) 253#32) = 1#1 then 0#32
      else IntOp.subi (n (ix2 i 0)) 126#32 := by
  pointwise [refExp]
  rfl

/-- A row's exponent, from its ratio. -/
theorem refExp_apply (x : FVec Ideal S4096x15360 .bf16) (r : FVec Ideal S120x256x256 .bf16) (i : Fin 4096) :
    (refExp (refCount (refQ (refV x r))) (ix2 i 0)).toInt = (sclField (fieldOf (ratio (row x i) r)) : ℤ) - 127
    ∧ -(refExp (refCount (refQ (refV x r))) (ix2 i 0)).toInt = (invField (fieldOf (ratio (row x i) r)) : ℤ) - 127 := by
  have hf := Cert.Rotation.fieldOf_isField (Cert.Rotation.ratio_nonneg (row x i) r)
  have he := refExp_at (refCount (refQ (refV x r))) i
  rw [refCount_apply, refQ_ratio, Cert.Rotation.count_eq hf] at he
  generalize refExp (refCount (refQ (refV x r))) (ix2 i 0) = e at he ⊢
  generalize fieldOf (ratio (row x i) r) = b at hf he ⊢
  exact Cert.Rotation.ref_words ⟨b, by have := hf.1; omega⟩ e he

theorem two_pow (b : ℕ) (h : b ≠ 0 ∧ b < 255) (z : ℤ) (hz : z = (b : ℤ) - 127) :
    Ideal.pow (2 : ℝ) (((z : ℝ) : EReal)) = pw b := by
  rw [Cert.Rotation.pow_two_int, Cert.Rotation.pw_normal b h.1 h.2, hz]

theorem refScale_apply (x : FVec Ideal S4096x15360 .bf16) (r : FVec Ideal S120x256x256 .bf16) (i : Fin 4096) :
    refScale (refExp (refCount (refQ (refV x r)))) (ix2 i 0) = scaleAt (row x i) r := by
  have h := (refExp_apply x r i).1
  generalize refExp (refCount (refQ (refV x r))) = e at h ⊢
  unfold scaleAt
  rw [← two_pow _ (Cert.Rotation.sclField_bounds _) _ h]
  pointwise [refScale, two]
  rfl

theorem refInv_apply (x : FVec Ideal S4096x15360 .bf16) (r : FVec Ideal S120x256x256 .bf16) (i : Fin 4096) :
    refInv (refExp (refCount (refQ (refV x r)))) (ix2 i 0) = invAt (row x i) r := by
  have h := (refExp_apply x r i).2
  generalize refExp (refCount (refQ (refV x r))) = e at h ⊢
  unfold invAt
  rw [← two_pow _ (Cert.Rotation.invField_bounds _) _ h]
  pointwise [refInv, two]
  rw [Int.cast_neg, EReal.coe_neg]
  rfl

/-! ## The run -/

open Cert.RotateReferenceIdeal.Gen (dats iblk out0_2 k0_pay1 V_main_arg0 V_main_arg1)

variable (m : (ℓ : Loc nD τ sig) → Buf (Elt Ideal) ℓ) (ρ : Dev nD → PrngReg)

/-- The codes, the scales as rows of 256 and the scales over 128 columns. -/
def codes (c : Dev nD) : Buf (Elt Ideal) ((c : Thread nD τ).loc main_v53) := fun i => codeAt (row (X m c) (i 0)) (R m c) (i 1)
def rows (c : Dev nD) : Buf (Elt Ideal) ((c : Thread nD τ).loc main_v51) := fun i =>
  scaleAt (row (X m c) ⟨256 * (i 0).val + (i 2).val, by have h0 : (i 0).val < 16 := (i 0).isLt; have h2 : (i 2).val < 256 := (i 2).isLt; omega⟩) (R m c)
def columns (c : Dev nD) : Buf (Elt Ideal) ((c : Thread nD τ).loc main_v52) := fun i => scaleAt (row (X m c) (i 0)) (R m c)

def t₀ : Fin cfg0.N := ⟨0, by decide⟩

theorem out_apply (v : Vec Ideal S4096x15360 .f32) (w : Vec Ideal S4096x1 .f32) (i : Fin 4096) (j : Fin 15360) :
    out0_2 v w (ix2 i j) = min (Ideal.ofBits .f32 0x43E00000#32) (max (Ideal.ofBits .f32 0xC3E00000#32) (v (ix2 i j) * w (ix2 i 0))) := by
  have hz : (![0, 0] : Fin 2 → Nat) = fun _ => 0 := funext fun a => by fin_cases a <;> rfl
  unfold out0_2
  rw [Value.canon2_eq, View.ld_unit_zero (S := S4096x15360) hz, View.ld_unit_zero (S := S4096x1) hz]
  have e0 : Value.ix2_0 (ix2 i j) = ix2 i j := funext fun a => match a with | ⟨0, _⟩ => rfl | ⟨1, _⟩ => rfl
  have e1 : Value.ix2_1 (ix2 i j) = ix2 i 0 := funext fun a => match a with | ⟨0, _⟩ => rfl | ⟨1, _⟩ => rfl
  show min (Ideal.ofBits .f32 0x43E00000#32) (max (Ideal.ofBits .f32 0xC3E00000#32)
    (v (Value.ix2_0 (ix2 i j)) * w (Value.ix2_1 (ix2 i j)))) = _
  rw [e0, e1]

/-- The codes after the run. -/
theorem final (c : Dev nD) : (dats m 0 c).arrAt 2 cfg0.N = codes m c := by
  have ho := Value.blocks2 m c t₀ (by decide)
  have hz2 : (fun a => (win0_2.index t₀) a * main_v53.ty.shape.size a) = fun _ => 0 :=
    funext fun a => by fin_cases a <;> decide
  rw [Memref.read_access_unit_zero (Elt Ideal) main_v53 hz2 (fun a => by fin_cases a <;> decide)] at ho
  rw [ho, Value.flushed2]
  show out0_2 _ _ = _
  have hz0 : (fun a => (win0_0.index t₀) a * main_v18.ty.shape.size a) = fun _ => 0 :=
    funext fun a => by fin_cases a <;> decide
  have e0 : iblk m c 0 t₀ = refV (X m c) (R m c) :=
    (Memref.read_access_unit_zero (Elt Ideal) main_v18 hz0 (fun a => by fin_cases a <;> decide) _).trans (V_v18 m c)
  have hz1 : (fun a => (win0_1.index t₀) a * main_v50.ty.shape.size a) = fun _ => 0 :=
    funext fun a => by fin_cases a <;> decide
  have e1 : iblk m c 1 t₀ = refInv (expOf m c) :=
    (Memref.read_access_unit_zero (Elt Ideal) main_v50 hz1 (fun a => by fin_cases a <;> decide) _).trans (V_v50 m c)
  rw [e0, e1]
  funext j
  obtain ⟨r, l, rfl⟩ : ∃ (r : Fin 4096) (l : Fin 15360), j = ix2 r l := ⟨j 0, j 1, eq_ix2 j⟩
  rw [out_apply, refV_apply, refInv_apply]
  rfl

theorem rows_eq (c : Dev nD) : V m c main_v51 = rows m c := by
  rw [V_v51]
  have h : ∀ (y : FVec Ideal S4096x1 .f32) (i : Fin 16) (k : Fin 256), shapeCast S16x1x256 y shapeCasts_S4096x1_S16x1x256 (ix3 i 0 k)
      = y (ix2 ⟨256 * i.val + k.val, by omega⟩ 0) := by
    intro y i k
    pointwise
    congr 3
    omega
  funext j
  obtain ⟨b, z, k, rfl⟩ : ∃ (b : Fin 16) (z : Fin 1) (k : Fin 256), j = ix3 b z k := ⟨j 0, j 1, j 2, eq_ix3 j⟩
  obtain rfl : z = 0 := Subsingleton.elim _ _
  rw [h, refScale_apply]
  rfl

theorem columns_eq (c : Dev nD) : V m c main_v52 = columns m c := by
  rw [V_v52]
  have h : ∀ (y : FVec Ideal S4096x1 .f32) (i : Fin 4096) (k : Fin 128), broadcastInDim S4096x128 ![0, 1] bcast_S4096x1_S4096x128_0_1 y (ix2 i k)
      = y (ix2 i 0) := by
    intro y i k
    pointwise
  funext j
  obtain ⟨r, l, rfl⟩ : ∃ (r : Fin 4096) (l : Fin 128), j = ix2 r l := ⟨j 0, j 1, eq_ix2 j⟩
  rw [h, refScale_apply]
  rfl

/-- The reference ends with the codes and both layouts of the scales, its arguments unchanged. -/
theorem run : θ_run defs (onTc (τ := τ) (main (F := Ideal))) ⟨m, fun _ => 0, ρ⟩ fun r => ∀ c : Dev nD,
      r.2.mem ((c : Thread nD τ).loc main_v53) = codes m c
      ∧ r.2.mem ((c : Thread nD τ).loc main_v51) = rows m c
      ∧ r.2.mem ((c : Thread nD τ).loc main_v52) = columns m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(Value.post2 m r h c).trans (final m c),
      ((h c).2 main_v51 (Pipeline.mem_restRefs_of main_v51 (by decide) (by decide))).trans (rows_eq m c),
      ((h c).2 main_v52 (Pipeline.mem_restRefs_of main_v52 (by decide) (by decide))).trans (columns_eq m c),
      Value.kept_main_arg0 m r h c, Value.kept_main_arg1 m r h c⟩)
    (Gen.run_main m ρ)

end Cert.RotateReferenceIdeal.Rot

end
-- ==== Proof.RotateValue.lean ====
/- The rotation call's tiled kernel, over the extended reals: the codes and both layouts of the scales it leaves are the
   formulas of `Proof/RotateSpec.lean` at every row, so it ends as its reference does. -/
module

public import proofs.«01_k».proof.Defs
public import proofs.«01_k».proof.Proof.RotateSpec
public import proofs.«01_k».proof.Proof.RotateIdealFrame
public import proofs.«01_k».proof.Proof.RotateReferenceValue
public import Idealize.ShloMosaic.Lib.Pipeline.Value
public import Idealize.ShloMosaic.Lib.Tactic

@[expose] public section

noncomputable section

namespace Cert.RotateIdeal.Rot

open Idealize.ShloMosaic Idealize.ShloMosaic.TcCoe Idealize.SL.Sem
open Idealize.ShloMosaic.Pipeline (Dat)
open Cert.RotateIdeal Cert.RotateIdeal.Gen
open Cert.Rotation (scaleAt codeAt rotN rotated quantised maxAll rowTile colTile invTile quantised_apply rowTile_apply colTile_apply)

variable (m : (ℓ : Loc nD τ sig) → Buf (Elt Ideal) ℓ) (ρ : Dev nD → PrngReg)

abbrev X (c : Dev nD) : FVec Ideal S4096x15360 .bf16 := m ((c : Thread nD τ).loc main_arg0)
abbrev R (c : Dev nD) : FVec Ideal S120x256x256 .bf16 := m ((c : Thread nD τ).loc main_arg1)

/-- Row `i` of the whole array. -/
abbrev row (X : FVec Ideal S4096x15360 .bf16) (i : Fin 4096) : Fin 15360 → EReal := fun j => X (ix2 i j)

/-- The codes, the scales as rows of 256 and the scales over 128 columns. -/
def codes (c : Dev nD) : Buf (Elt Ideal) ((c : Thread nD τ).loc main_v0_0) := fun i => codeAt (row (X m c) (i 0)) (R m c) (i 1)
def rows (c : Dev nD) : Buf (Elt Ideal) ((c : Thread nD τ).loc main_v0_1) := fun i =>
  scaleAt (row (X m c) ⟨256 * (i 0).val + (i 2).val, by have h0 : (i 0).val < 16 := (i 0).isLt; have h2 : (i 2).val < 256 := (i 2).isLt; omega⟩) (R m c)
def columns (c : Dev nD) : Buf (Elt Ideal) ((c : Thread nD τ).loc main_v0_2) := fun i => scaleAt (row (X m c) (i 0)) (R m c)

/-- Where the windows stand at point `t`: the rows and the scales at tile `t` (15 at the last point), the codes one
    tile behind. -/
theorem idx (t : Fin cfg0.N) :
    (win0_0.index t 0 = min t.val 15 ∧ win0_0.index t 1 = 0) ∧ (win0_1.index t 0 = 0 ∧ win0_1.index t 1 = 0 ∧ win0_1.index t 2 = 0)
      ∧ (win0_2.index t 0 = t.val - 1 ∧ win0_2.index t 1 = 0)
      ∧ (win0_3.index t 0 = min t.val 15 ∧ win0_3.index t 1 = 0 ∧ win0_3.index t 2 = 0)
      ∧ (win0_4.index t 0 = min t.val 15 ∧ win0_4.index t 1 = 0) :=
  (by decide +kernel : ∀ t : Fin grid0.N,
    (win0_0.index t 0 = min t.val 15 ∧ win0_0.index t 1 = 0) ∧ (win0_1.index t 0 = 0 ∧ win0_1.index t 1 = 0 ∧ win0_1.index t 2 = 0)
      ∧ (win0_2.index t 0 = t.val - 1 ∧ win0_2.index t 1 = 0)
      ∧ (win0_3.index t 0 = min t.val 15 ∧ win0_3.index t 1 = 0 ∧ win0_3.index t 2 = 0)
      ∧ (win0_4.index t 0 = min t.val 15 ∧ win0_4.index t 1 = 0)) t

theorem N_eq : cfg0.N = 17 := N_0

/-- Which points write the codes back, and which the scales. -/
theorem flush_codes : ∀ t : Fin cfg0.N, (cfg0.win 2).flush t = true ↔ t.val ≠ 0 := by decide +kernel
theorem flush_rows : ∀ t : Fin cfg0.N, (cfg0.win 3).flush t = true ↔ t.val ≠ 15 := by decide +kernel
theorem flush_columns : ∀ t : Fin cfg0.N, (cfg0.win 4).flush t = true ↔ t.val ≠ 15 := by decide +kernel

/-- The tile of rows point `n` holds, at an index of the array. -/
theorem inX_apply (c : Dev nD) (n : ℕ) (r : Fin 256) (k : Fin 15360) (h : 256 * min n 15 + r.val < 4096) :
    inX m c n (ix2 r k) = X m c (ix2 ⟨256 * min n 15 + r.val, h⟩ k) := by
  have hi := idx (pt n)
  unfold inX iblk
  rw [View.read_apply]
  show V m c main_arg0 _ = _
  rw [V_main_arg0]
  refine congrArg (m ((c : Thread nD τ).loc main_arg0)) (funext fun a => Fin.ext ?_)
  match a with
  | ⟨0, _⟩ =>
    show win0_0.index (pt n) 0 * 256 + 1 * r.val = 256 * min n 15 + r.val
    rw [hi.1.1]
    show min (min n 15) 15 * 256 + 1 * r.val = 256 * min n 15 + r.val
    omega
  | ⟨1, _⟩ => show win0_0.index (pt n) 1 * 15360 + 1 * k.val = k.val; rw [hi.1.2]; omega

/-- Every point holds all the matrices. -/
theorem inR_eq (c : Dev nD) (n : ℕ) : inR m c n = R m c := by
  have hi := (idx (pt n)).2.1
  funext j
  unfold inR iblk
  rw [View.read_apply]
  show V m c main_arg1 _ = _
  rw [V_main_arg1]
  refine congrArg (m ((c : Thread nD τ).loc main_arg1)) (funext fun a => Fin.ext ?_)
  match a with
  | ⟨0, _⟩ => show win0_1.index (pt n) 0 * 120 + 1 * (j 0).val = (j 0).val; rw [hi.1]; omega
  | ⟨1, _⟩ => show win0_1.index (pt n) 1 * 256 + 1 * (j 1).val = (j 1).val; rw [hi.2.1]; omega
  | ⟨2, _⟩ => show win0_1.index (pt n) 2 * 256 + 1 * (j 2).val = (j 2).val; rw [hi.2.2]; omega

/-- A row of point `n`'s tile is a row of the array. -/
theorem row_eq (c : Dev nD) (n : ℕ) (r : Fin 256) (h : 256 * min n 15 + r.val < 4096) :
    Cert.Rotation.row (inX m c n) r = row (X m c) ⟨256 * min n 15 + r.val, h⟩ :=
  funext fun k => inX_apply m c n r k h

/-- What point `n` leaves, at an index. -/
theorem codes_apply (c : Dev nD) (n : ℕ) (r : Fin 256) (k : Fin 15360) (h : 256 * min n 15 + r.val < 4096) :
    quantised (scrX m c n) (scrI m c n) (ix2 r k) = codeAt (row (X m c) ⟨256 * min n 15 + r.val, h⟩) (R m c) k := by
  unfold scrX scrI amaxAt
  rw [quantised_apply, row_eq m c n r h, inR_eq]

theorem rows_apply (c : Dev nD) (n : ℕ) (r : Fin 256) (h : 256 * min n 15 + r.val < 4096) :
    rowTile (amaxAt m c n) (ix3 0 0 r) = scaleAt (row (X m c) ⟨256 * min n 15 + r.val, h⟩) (R m c) := by
  unfold amaxAt
  rw [rowTile_apply, row_eq m c n r h, inR_eq]

theorem columns_apply (c : Dev nD) (n : ℕ) (r : Fin 256) (d : Fin 128) (h : 256 * min n 15 + r.val < 4096) :
    colTile (amaxAt m c n) (ix2 r d) = scaleAt (row (X m c) ⟨256 * min n 15 + r.val, h⟩) (R m c) := by
  unfold amaxAt
  rw [colTile_apply, row_eq m c n r h, inR_eq]

/-! ## What every point writes back -/

theorem flushed_codes (c : Dev nD) (t : Fin cfg0.N) (hf : (cfg0.win 2).flush t = true) :
    (dats m 0 c).flushed 2 t = ((cfg0.win 2).blk t).view.read (Elt Ideal) (codes m c) := by
  have hi := (idx t).2.2.1
  have ht : t.val < 17 := t.isLt.trans_eq N_eq
  have h0 := (flush_codes t).mp hf
  show (cfg0.win 2).cut (grid0.coords t) ((dats m 0 c).after 2 t) = _
  rw [after0_2]
  show quantised (scrX m c (t.val - 1)) (scrI m c (t.val - 1)) = _
  funext j
  obtain ⟨r, k, rfl⟩ : ∃ (r : Fin 256) (k : Fin 15360), j = ix2 r k := ⟨j 0, j 1, eq_ix2 j⟩
  have hr : 256 * min (t.val - 1) 15 + r.val < 4096 := by omega
  rw [codes_apply m c (t.val - 1) r k hr, View.read_apply]
  have e : ((cfg0.win 2).blk t).view.emb (ix2 r k) = ix2 ⟨256 * min (t.val - 1) 15 + r.val, hr⟩ k := by
    funext a
    apply Fin.ext
    match a with
    | ⟨0, _⟩ =>
      show win0_2.index t 0 * 256 + 1 * r.val = 256 * min (t.val - 1) 15 + r.val
      rw [hi.1]; omega
    | ⟨1, _⟩ => show win0_2.index t 1 * 15360 + 1 * k.val = k.val; rw [hi.2]; omega
  rw [e]
  rfl

theorem flushed_rows (c : Dev nD) (t : Fin cfg0.N) :
    (dats m 0 c).flushed 3 t = ((cfg0.win 3).blk t).view.read (Elt Ideal) (rows m c) := by
  have hi := (idx t).2.2.2.1
  have ht : t.val < 17 := t.isLt.trans_eq N_eq
  show (cfg0.win 3).cut (grid0.coords t) ((dats m 0 c).after 3 t) = _
  rw [after0_3]
  show rowTile (amaxAt m c t.val) = _
  funext j
  obtain ⟨a, b, r, rfl⟩ : ∃ (a b : Fin 1) (r : Fin 256), j = ix3 a b r := ⟨j 0, j 1, j 2, eq_ix3 j⟩
  obtain rfl : a = 0 := Subsingleton.elim _ _
  obtain rfl : b = 0 := Subsingleton.elim _ _
  have hr : 256 * min t.val 15 + r.val < 4096 := by omega
  rw [rows_apply m c t.val r hr, View.read_apply]
  have e : ((cfg0.win 3).blk t).view.emb (ix3 0 0 r) = ix3 ⟨min t.val 15, by omega⟩ 0 r := by
    funext a
    apply Fin.ext
    match a with
    | ⟨0, _⟩ => show win0_3.index t 0 * 1 + 1 * 0 = min t.val 15; rw [hi.1]; omega
    | ⟨1, _⟩ => show win0_3.index t 1 * 1 + 1 * 0 = 0; rw [hi.2.1]
    | ⟨2, _⟩ => show win0_3.index t 2 * 256 + 1 * r.val = r.val; rw [hi.2.2]; omega
  rw [e]
  rfl

theorem flushed_columns (c : Dev nD) (t : Fin cfg0.N) :
    (dats m 0 c).flushed 4 t = ((cfg0.win 4).blk t).view.read (Elt Ideal) (columns m c) := by
  have hi := (idx t).2.2.2.2
  have ht : t.val < 17 := t.isLt.trans_eq N_eq
  show (cfg0.win 4).cut (grid0.coords t) ((dats m 0 c).after 4 t) = _
  rw [after0_4]
  show colTile (amaxAt m c t.val) = _
  funext j
  obtain ⟨r, d, rfl⟩ : ∃ (r : Fin 256) (d : Fin 128), j = ix2 r d := ⟨j 0, j 1, eq_ix2 j⟩
  have hr : 256 * min t.val 15 + r.val < 4096 := by omega
  rw [columns_apply m c t.val r d hr, View.read_apply]
  have e : ((cfg0.win 4).blk t).view.emb (ix2 r d) = ix2 ⟨256 * min t.val 15 + r.val, hr⟩ d := by
    funext a
    apply Fin.ext
    match a with
    | ⟨0, _⟩ => show win0_4.index t 0 * 256 + 1 * r.val = 256 * min t.val 15 + r.val; rw [hi.1]; omega
    | ⟨1, _⟩ => show win0_4.index t 1 * 128 + 1 * d.val = d.val; rw [hi.2]; omega
  rw [e]
  rfl

/-! ## Every index is written back -/

theorem cover_codes (i : S4096x15360.Idx) : ∃ t : Fin cfg0.N, (cfg0.win 2).flush t = true ∧ i ∈ ((cfg0.win 2).blk t).view.set := by
  have h0 : (i 0 : Nat) < 4096 := (i 0).isLt
  have h1 : (i 1 : Nat) < 15360 := (i 1).isLt
  have hN : cfg0.N = 17 := N_eq
  have ht : (i 0 : Nat) / 256 + 1 < cfg0.N := by omega
  refine ⟨⟨_, ht⟩, (flush_codes _).mpr (by show (i 0 : Nat) / 256 + 1 ≠ 0; omega), ?_⟩
  have hi := (idx ⟨_, ht⟩).2.2.1
  show i ∈ ((View.whole main_v0_0).slice (win0_2.rect ⟨_, ht⟩)).set
  rw [View.set_slice_whole, Rect.mem_set_unit]
  intro a
  match a with
  | ⟨0, _⟩ =>
    show win0_2.index ⟨_, ht⟩ 0 * 256 ≤ (i 0 : Nat) ∧ (i 0 : Nat) < win0_2.index ⟨_, ht⟩ 0 * 256 + 256
    rw [hi.1]; dsimp only; omega
  | ⟨1, _⟩ =>
    show win0_2.index ⟨_, ht⟩ 1 * 15360 ≤ (i 1 : Nat) ∧ (i 1 : Nat) < win0_2.index ⟨_, ht⟩ 1 * 15360 + 15360
    rw [hi.2]; omega

/-- The point that writes tile `n` of the scales back. -/
def writer (n : ℕ) : ℕ := if n = 15 then 16 else n

theorem writer_spec (n : ℕ) (h : n < 16) : writer n < cfg0.N ∧ writer n ≠ 15 ∧ min (writer n) 15 = n := by
  have hN : cfg0.N = 17 := N_eq
  unfold writer
  split <;> omega

theorem cover_rows (i : S16x1x256.Idx) : ∃ t : Fin cfg0.N, (cfg0.win 3).flush t = true ∧ i ∈ ((cfg0.win 3).blk t).view.set := by
  have h0 : (i 0 : Nat) < 16 := (i 0).isLt
  have h1 : (i 1 : Nat) < 1 := (i 1).isLt
  have h2 : (i 2 : Nat) < 256 := (i 2).isLt
  obtain ⟨ht, hw, hm⟩ := writer_spec (i 0 : Nat) h0
  refine ⟨⟨_, ht⟩, (flush_rows _).mpr hw, ?_⟩
  have hi := (idx ⟨_, ht⟩).2.2.2.1
  show i ∈ ((View.whole main_v0_1).slice (win0_3.rect ⟨_, ht⟩)).set
  rw [View.set_slice_whole, Rect.mem_set_unit]
  intro a
  match a with
  | ⟨0, _⟩ =>
    show win0_3.index ⟨_, ht⟩ 0 * 1 ≤ (i 0 : Nat) ∧ (i 0 : Nat) < win0_3.index ⟨_, ht⟩ 0 * 1 + 1
    rw [hi.1, show min (⟨_, ht⟩ : Fin cfg0.N).val 15 = (i 0 : Nat) from hm]; omega
  | ⟨1, _⟩ =>
    show win0_3.index ⟨_, ht⟩ 1 * 1 ≤ (i 1 : Nat) ∧ (i 1 : Nat) < win0_3.index ⟨_, ht⟩ 1 * 1 + 1
    rw [hi.2.1]; omega
  | ⟨2, _⟩ =>
    show win0_3.index ⟨_, ht⟩ 2 * 256 ≤ (i 2 : Nat) ∧ (i 2 : Nat) < win0_3.index ⟨_, ht⟩ 2 * 256 + 256
    rw [hi.2.2]; omega

theorem cover_columns (i : S4096x128.Idx) : ∃ t : Fin cfg0.N, (cfg0.win 4).flush t = true ∧ i ∈ ((cfg0.win 4).blk t).view.set := by
  have h0 : (i 0 : Nat) < 4096 := (i 0).isLt
  have h1 : (i 1 : Nat) < 128 := (i 1).isLt
  obtain ⟨ht, hw, hm⟩ := writer_spec ((i 0 : Nat) / 256) (by omega)
  refine ⟨⟨_, ht⟩, (flush_columns _).mpr hw, ?_⟩
  have hi := (idx ⟨_, ht⟩).2.2.2.2
  show i ∈ ((View.whole main_v0_2).slice (win0_4.rect ⟨_, ht⟩)).set
  rw [View.set_slice_whole, Rect.mem_set_unit]
  intro a
  match a with
  | ⟨0, _⟩ =>
    show win0_4.index ⟨_, ht⟩ 0 * 256 ≤ (i 0 : Nat) ∧ (i 0 : Nat) < win0_4.index ⟨_, ht⟩ 0 * 256 + 256
    rw [hi.1, show min (⟨_, ht⟩ : Fin cfg0.N).val 15 = (i 0 : Nat) / 256 from hm]; omega
  | ⟨1, _⟩ =>
    show win0_4.index ⟨_, ht⟩ 1 * 128 ≤ (i 1 : Nat) ∧ (i 1 : Nat) < win0_4.index ⟨_, ht⟩ 1 * 128 + 128
    rw [hi.2]; omega

/-! ## The run -/

theorem final_codes (c : Dev nD) : (dats m 0 c).arrAt 2 cfg0.N = codes m c :=
  (dats m 0 c).arrAt_eq_of_cover 2 (codes m c) (fun t ht => flushed_codes m c t ht) cover_codes
theorem final_rows (c : Dev nD) : (dats m 0 c).arrAt 3 cfg0.N = rows m c :=
  (dats m 0 c).arrAt_eq_of_cover 3 (rows m c) (fun t _ => flushed_rows m c t) cover_rows
theorem final_columns (c : Dev nD) : (dats m 0 c).arrAt 4 cfg0.N = columns m c :=
  (dats m 0 c).arrAt_eq_of_cover 4 (columns m c) (fun t _ => flushed_columns m c t) cover_columns

/-- The kernel ends with the codes and both layouts of the scales, its arguments unchanged. -/
theorem run : θ_run defs (onTc (τ := τ) (main (F := Ideal))) ⟨m, fun _ => 0, ρ⟩ fun r => ∀ c : Dev nD,
      r.2.mem ((c : Thread nD τ).loc main_v0_0) = codes m c
      ∧ r.2.mem ((c : Thread nD τ).loc main_v0_1) = rows m c
      ∧ r.2.mem ((c : Thread nD τ).loc main_v0_2) = columns m c
      ∧ r.2.mem ((c : Thread nD τ).loc main_arg0) = m ((c : Thread nD τ).loc main_arg0)
      ∧ r.2.mem ((c : Thread nD τ).loc main_arg1) = m ((c : Thread nD τ).loc main_arg1) := by
  have hargs := frame_of m ρ (dats m) (A_eq m) (run_main m ρ)
  refine (θ_run defs _ _).mono (fun r h c => ?_) (θ_run_and (run_main m ρ) hargs)
  exact ⟨((h.1 c).1 2).trans (final_codes m c), ((h.1 c).1 3).trans (final_rows m c), ((h.1 c).1 4).trans (final_columns m c),
    (h.2 c).1, (h.2 c).2⟩

end Cert.RotateIdeal.Rot

namespace Cert.Proof.RotationClaim

open Idealize.ShloMosaic Idealize.ShloMosaic.TcCoe Idealize.SL.Sem

/-- The tiled rotation and quantisation and the whole-array one end with equal results, over the extended reals. -/
theorem algebraic : Cert.algebraic_RotateIdeal_RotateReferenceIdeal := by
  intro m ρ m' ρ' _ hagree
  refine ⟨fun c => Cert.RotateIdeal.Rot.codes m c, fun c => Cert.RotateIdeal.Rot.rows m c, fun c => Cert.RotateIdeal.Rot.columns m c, ?_, ?_⟩
  · exact Cert.RotateIdeal.Rot.run m ρ
  · have e1 (c : Dev Cert.RotateIdeal.nD) : Cert.RotateReferenceIdeal.Rot.codes m' c = Cert.RotateIdeal.Rot.codes m c := by
      obtain ⟨h0, h1⟩ := hagree c
      unfold Cert.RotateReferenceIdeal.Rot.codes Cert.RotateIdeal.Rot.codes Cert.RotateReferenceIdeal.Rot.X Cert.RotateReferenceIdeal.Rot.R
      rw [h0, h1]
      rfl
    have e2 (c : Dev Cert.RotateIdeal.nD) : Cert.RotateReferenceIdeal.Rot.rows m' c = Cert.RotateIdeal.Rot.rows m c := by
      obtain ⟨h0, h1⟩ := hagree c
      unfold Cert.RotateReferenceIdeal.Rot.rows Cert.RotateIdeal.Rot.rows Cert.RotateReferenceIdeal.Rot.X Cert.RotateReferenceIdeal.Rot.R
      rw [h0, h1]
      rfl
    have e3 (c : Dev Cert.RotateIdeal.nD) : Cert.RotateReferenceIdeal.Rot.columns m' c = Cert.RotateIdeal.Rot.columns m c := by
      obtain ⟨h0, h1⟩ := hagree c
      unfold Cert.RotateReferenceIdeal.Rot.columns Cert.RotateIdeal.Rot.columns Cert.RotateReferenceIdeal.Rot.X Cert.RotateReferenceIdeal.Rot.R
      rw [h0, h1]
      rfl
    exact (θ_run Cert.RotateReferenceIdeal.defs _ _).mono
      (fun _ h c => ⟨(h c).1.trans (e1 c), (h c).2.1.trans (e2 c), (h c).2.2.1.trans (e3 c), (h c).2.2.2⟩)
      (Cert.RotateReferenceIdeal.Rot.run m' ρ')

end Cert.Proof.RotationClaim

end
-- ==== Proof.ComposeSpec.lean ====
/- What one rotation does to the matrix being composed, and what a row access of it is.

   A rotation with cosine `c` and sine `s` takes rows `i` and `j` of a `128×128` matrix to `c·rᵢ - s·rⱼ` and
   `s·rᵢ + c·rⱼ`; row `j` is written first, so that of two equal rows row `i`'s value stays. `composed` is a number
   of them in order, the words of rotation `k` being words `2k` and `2k + 1` of a row of 512. -/
module

public import proofs.«01_k».proof.Proof.RotateWp

@[expose] public section

noncomputable section

namespace Cert.Composition

open Idealize.ShloMosaic

abbrev S128x128 : Shape := ⟨2, ![128, 128]⟩
abbrev S1x128 : Shape := ⟨2, ![1, 128]⟩
abbrev S1x1x512 : Shape := ⟨3, ![1, 1, 512]⟩
abbrev S1x1x1 : Shape := ⟨3, ![1, 1, 1]⟩
abbrev S120 : Shape := ⟨1, ![120]⟩
abbrev S1 : Shape := ⟨1, ![1]⟩
abbrev S1x256x256 : Shape := ⟨3, ![1, 256, 256]⟩

/-! ## Rows and words -/

section Access

variable {α : Type}

/-- Row `n`. -/
def rowOf (X : S128x128.Idx → α) (n : ℕ) : S1x128.Idx → α := fun y =>
  X (ix2 (n0 := 128) (n1 := 128) ⟨n % 128, Nat.mod_lt _ (by decide)⟩ (y 1))

/-- Row `n` replaced. -/
def setRow (X : S128x128.Idx → α) (n : ℕ) (w : S1x128.Idx → α) : S128x128.Idx → α := fun i =>
  if (i 0).val = n then w (ix2 (n0 := 1) (n1 := 128) 0 (i 1)) else X i

/-- Word `n` of a row of 512. -/
def word (W : S1x1x512.Idx → α) (n : ℕ) : α := W (ix3 (n0 := 1) (n1 := 1) (n2 := 512) 0 0 ⟨n % 512, Nat.mod_lt _ (by decide)⟩)

theorem emb_row {off : Fin 2 → ℕ} {inb : ∀ a, off a + S1x128.size a ≤ S128x128.size a} {n : ℕ} (h0 : off 0 = n) (h1 : off 1 = 0)
    (hn : n < 128) (y : S1x128.Idx) :
    (Rect.unit (s := S128x128) off S1x128.size inb).emb y
      = ix2 (n0 := 128) (n1 := 128) ⟨n % 128, Nat.mod_lt _ (by decide)⟩ (y 1) := by
  have hy : (y 0).val < 1 := (y 0).isLt
  funext a; apply Fin.ext; match a with
  | ⟨0, _⟩ => show off 0 + 1 * (y 0).val = n % 128; omega
  | ⟨1, _⟩ => show off 1 + 1 * (y 1).val = (y 1).val; omega

theorem read_row {off : Fin 2 → ℕ} {inb : ∀ a, off a + S1x128.size a ≤ S128x128.size a} {n : ℕ} (h0 : off 0 = n) (h1 : off 1 = 0)
    (hn : n < 128) (X : S128x128.Idx → α) :
    (fun y => X ((Rect.unit (s := S128x128) off S1x128.size inb).emb y)) = rowOf X n := by
  funext y; rw [emb_row h0 h1 hn]; rfl

theorem write_row {off : Fin 2 → ℕ} {inb : ∀ a, off a + S1x128.size a ≤ S128x128.size a} {n : ℕ} (h0 : off 0 = n) (h1 : off 1 = 0)
    (hn : n < 128) (X : S128x128.Idx → α) (w : S1x128.Idx → α) (Z : S128x128.Idx → α)
    (hin : ∀ y, Z ((Rect.unit (s := S128x128) off S1x128.size inb).emb y) = w y)
    (hout : ∀ i, i ∉ (Rect.unit (s := S128x128) off S1x128.size inb).set → Z i = X i) : Z = setRow X n w := by
  funext i
  unfold setRow
  by_cases hi : (i 0).val = n
  · have he : (Rect.unit (s := S128x128) off S1x128.size inb).emb (ix2 (n0 := 1) (n1 := 128) 0 (i 1)) = i := by
      rw [emb_row h0 h1 hn]
      funext a; apply Fin.ext; match a with
      | ⟨0, _⟩ => show n % 128 = (i 0).val; omega
      | ⟨1, _⟩ => rfl
    rw [if_pos hi, ← hin, he]
  · rw [if_neg hi]
    refine hout i fun hc => hi ?_
    obtain ⟨y, -, hy⟩ := Finset.mem_map.mp ((Rect.map_emb_univ _).symm ▸ hc)
    rw [emb_row h0 h1 hn] at hy
    have h2 : n % 128 = (i 0).val := by rw [← hy]; rfl
    omega

theorem read_word {off : Fin 3 → ℕ} {inb : ∀ a, off a + S1x1x1.size a ≤ S1x1x512.size a} {n : ℕ}
    (h0 : off 0 = 0) (h1 : off 1 = 0) (h2 : off 2 = n) (hn : n < 512) (W : S1x1x512.Idx → α) (y : S1x1x1.Idx) :
    W ((Rect.unit (s := S1x1x512) off S1x1x1.size inb).emb y) = word W n := by
  unfold word; congr 1
  have hy0 : (y 0).val < 1 := (y 0).isLt
  have hy1 : (y 1).val < 1 := (y 1).isLt
  have hy2 : (y 2).val < 1 := (y 2).isLt
  funext a; apply Fin.ext; match a with
  | ⟨0, _⟩ => show off 0 + 1 * (y 0).val = 0; omega
  | ⟨1, _⟩ => show off 1 + 1 * (y 1).val = 0; omega
  | ⟨2, _⟩ => show off 2 + 1 * (y 2).val = n % 512; omega

theorem read_count {off : Fin 1 → ℕ} {inb : ∀ a, off a + S1.size a ≤ S120.size a} {n : Fin 120}
    (h0 : off 0 = n.val) (W : S120.Idx → α) (y : S1.Idx) :
    W ((Rect.unit (s := S120) off S1.size inb).emb y) = W (ix1 (n0 := 120) n) := by
  congr 1
  have hy0 : (y 0).val < 1 := (y 0).isLt
  funext a; apply Fin.ext; match a with
  | ⟨0, _⟩ => show off 0 + 1 * (y 0).val = n.val; omega

theorem emb_all {inb : ∀ a, (![0, 0] : Fin 2 → ℕ) a + S128x128.size a ≤ S128x128.size a} (y : S128x128.Idx) :
    (Rect.unit (s := S128x128) ![0, 0] S128x128.size inb).emb y = y := by
  funext a; apply Fin.ext; match a with
  | ⟨0, _⟩ => show 0 + 1 * (y 0).val = (y 0).val; omega
  | ⟨1, _⟩ => show 0 + 1 * (y 1).val = (y 1).val; omega

theorem emb_out {inb : ∀ a, (![0, 0, 0] : Fin 3 → ℕ) a + S1x256x256.size a ≤ S1x256x256.size a} (y : S1x256x256.Idx) :
    (Rect.unit (s := S1x256x256) ![0, 0, 0] S1x256x256.size inb).emb y = y := by
  funext a; apply Fin.ext; match a with
  | ⟨0, _⟩ => show 0 + 1 * (y 0).val = (y 0).val; omega
  | ⟨1, _⟩ => show 0 + 1 * (y 1).val = (y 1).val; omega
  | ⟨2, _⟩ => show 0 + 1 * (y 2).val = (y 2).val; omega

end Access

/-! ## The rotations -/

section Turn

variable {F : FTy → Type} [FloatOps F]

def turnI (c s : F .f32) (ri rj : FVec F S1x128 .f32) : FVec F S1x128 .f32 :=
  subf (mulf (broadcast S1x128 c) ri) (mulf (broadcast S1x128 s) rj)

def turnJ (c s : F .f32) (ri rj : FVec F S1x128 .f32) : FVec F S1x128 .f32 :=
  addf (mulf (broadcast S1x128 s) ri) (mulf (broadcast S1x128 c) rj)

/-- One rotation. -/
def turned (c s : F .f32) (i j : ℕ) (X : FVec F S128x128 .f32) : FVec F S128x128 .f32 :=
  setRow (setRow X j (turnJ c s (rowOf X i) (rowOf X j))) i (turnI c s (rowOf X i) (rowOf X j))

/-- The first `k` rotations. -/
def composed (I : IVec S1x1x512 32) (C : FVec F S1x1x512 .f32) (X : FVec F S128x128 .f32) : ℕ → FVec F S128x128 .f32
  | 0 => X
  | k + 1 => turned (word C (2 * k)) (word C (2 * k + 1)) (word I (2 * k)).toNat (word I (2 * k + 1)).toNat (composed I C X k)

end Turn

end Cert.Composition

end
-- ==== Proof.ComposeBody.lean ====
/- The composition kernel's body at a grid point, run.

   The body sets the scratch matrix to the identity, reads how many rotations its block has, applies them one by one
   and stores the packed transpose. The run needs what the body assumes of the words it reads: at most 256 rotations, each
   naming two rows of the 128. The second printed loop, over what the trips by one leave over, makes no trip. -/
module

public import proofs.«01_k».proof.Proof.Gen.Compose.Frame
public import proofs.«01_k».proof.Proof.Gen.Compose.Skeleton
public import proofs.«01_k».proof.Proof.ComposeSpec
public import Idealize.ShloMosaic.Lib.LoopRemainder
public import Idealize.ShloMosaic.Lib.Pointwise.Reshape

@[expose] public section

set_option maxRecDepth 65536

noncomputable section

namespace Cert.Compose.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation (wp_load_owns wp_store_owns wp_seq le_wp_pure)
open Cert.Composition (rowOf setRow word turnI turnJ turned composed read_row write_row read_word read_count emb_all emb_out)

variable {F : FTy → Type} [FloatOps F]

local notation "𝕄" => MT nD τ sig Unit (Elt F) ℕ (UR sig nD τ) ℕ

/-! ## The words the body assumes something of -/

theorem trips_eq (v : BitVec 32) : (k0_t1_loop v).trips = v.toInt.toNat := by
  show Scf.trips 0#32 (Scalar.addi 0#32 (Scalar.muli (Scalar.divsi (Scalar.subi v 0#32) 1#32) 1#32)) 1#32 = _
  rw [Scalar.muli_divsi_one]
  show Scf.trips 0#32 (0#32 + (v - 0#32)) 1#32 = _
  rw [BitVec.sub_zero, BitVec.zero_add]
  unfold Scf.trips
  have h0 : (0#32 : BitVec 32).toInt = 0 := by decide
  have h1 : (1#32 : BitVec 32).toInt = 1 := by decide
  rw [h0, h1]
  omega

theorem trips_rest (v : BitVec 32) : (k0_t2_loop v).trips = 0 := Scf.rem_trips 0#32 (Scalar.subi v 0#32)

theorem even_eq (v : BitVec 32) (k : Fin (k0_t1_loop v).trips) (hk : k.val < 256) : k0_off2 v k 2 = 2 * k.val := by
  show (2#32 * (0#32 + BitVec.ofNat 32 k.val * 1#32)).toNat = _
  rw [BitVec.zero_add, BitVec.mul_one, BitVec.toNat_mul, BitVec.toNat_ofNat]
  show (2 * (k.val % 2 ^ 32)) % 2 ^ 32 = _
  omega

theorem odd_eq (v : BitVec 32) (k : Fin (k0_t1_loop v).trips) (hk : k.val < 256) : k0_off3 v k 2 = 2 * k.val + 1 := by
  show (2#32 * (0#32 + BitVec.ofNat 32 k.val * 1#32) + 1#32).toNat = _
  rw [BitVec.zero_add, BitVec.mul_one, BitVec.toNat_add, BitVec.toNat_mul, BitVec.toNat_ofNat]
  show ((2 * (k.val % 2 ^ 32)) % 2 ^ 32 + 1) % 2 ^ 32 = _
  omega

theorem count_ok (v : BitVec 32) (hv : v.toInt ≤ 256) : k0_chk1 v := by
  have ht : ∀ k : Fin (k0_t1_loop v).trips, k.val < 256 := fun k => by
    have := k.isLt; have h := trips_eq v; omega
  refine ⟨?_, fun k a => ?_, fun k a => ?_, Scf.rem_ok 0#32 (Scalar.subi v 0#32), fun k => ?_, fun k => ?_⟩
  · refine ⟨by show 0 < (1#32 : BitVec 32).toInt; decide, ?_⟩
    show (0#32 : BitVec 32).toInt + ((k0_t1_loop v).trips : ℤ) * (1#32 : BitVec 32).toInt < 2 ^ 31
    have h0 : (0#32 : BitVec 32).toInt = 0 := by decide
    have h1 : (1#32 : BitVec 32).toInt = 1 := by decide
    rw [h0, h1, trips_eq]; omega
  · have := even_eq v k (ht k); have := ht k
    match a with
    | ⟨0, _⟩ => exact Nat.le_refl 1
    | ⟨1, _⟩ => exact Nat.le_refl 1
    | ⟨2, _⟩ => show k0_off2 v k 2 + 1 ≤ 512; omega
  · have := odd_eq v k (ht k); have := ht k
    match a with
    | ⟨0, _⟩ => exact Nat.le_refl 1
    | ⟨1, _⟩ => exact Nat.le_refl 1
    | ⟨2, _⟩ => show k0_off3 v k 2 + 1 ≤ 512; omega
  · exact absurd (lt_of_lt_of_eq k.isLt (trips_rest v)) (Nat.not_lt_zero _)
  · exact absurd (lt_of_lt_of_eq k.isLt (trips_rest v)) (Nat.not_lt_zero _)

theorem row_in {v : BitVec 32} (hv : v.toNat < 128) : ∀ a, (![v.toNat, 0] : Fin 2 → ℕ) a + S1x128.size a ≤ S128x128.size a := fun a =>
  match a with
  | ⟨0, _⟩ => by show v.toNat + 1 ≤ 128; omega
  | ⟨1, _⟩ => Nat.le_refl 128

theorem first_ok (v : BitVec 32) (hv : v.toNat < 128) : k0_chk2 v := ⟨row_in hv, row_in hv⟩
theorem second_ok (v : BitVec 32) (hv : v.toNat < 128) : k0_chk3 v := row_in hv

theorem pay_second (c s : F .f32) (ri rj : FVec F S1x128 .f32) : k0_pay3 c s ri rj = turnJ c s ri rj := by
  unfold k0_pay3; exact shapeCast_id _ _
theorem pay_first (c s : F .f32) (ri rj : FVec F S1x128 .f32) : k0_pay4 c s ri rj = turnI c s ri rj := by
  unfold k0_pay4; exact shapeCast_id _ _

/-! ## One word -/

/-- Loading the one word `x` of a buffer held at `X`. -/
theorem wp_word {α : Type} {defs' : Defs nD τ sig (Elt F) Λ₀} (𝒱 : Variants) (c : Thread nD τ) (bd : Option 𝒱.V) (E : Set ℕ)
    {s : Shape} {e : EltTy} {m : Memref sig c.2.kind .smem s e} {r : Rect s} {h1 : r.shape.numel = 1} {hp : e.packing = 1}
    {k : Elt F e → Prog (TpuEff nD τ sig (Elt F) Λ₀ c.2) α} {Q : α → sProp 𝕄} {X : s.Idx → Elt F e} {x : Elt F e}
    (hx : ∀ y : r.shape.Idx, X (r.emb y) = x) :
    (owns c m fullShare X : sProp 𝕄)
      ⊢ iprop((owns c m fullShare X -∗ wp frame (wpE defs' 𝒱 c bd) E (k x) Q)
        -∗ wp frame (wpE defs' 𝒱 c bd) E (smemLoad m r h1 hp >>= k) Q) := by
  have h := wp_load_owns (defs := defs') 𝒱 c bd E (Q := Q) (m := m) (r := r) (hl := View.loadsAt_rect (View.loads_smem_one hp h1))
    (k := fun f => k (f (Shape.Idx.first (h1.symm ▸ Nat.one_pos)))) (q := fullShare) (X := X)
  rw [← hx (Shape.Idx.first (h1.symm ▸ Nat.one_pos))]
  exact h

/-! ## A trip -/

section Run

variable {defs' : Defs nD τ sig (Elt F) Λ₀} (𝒱 : Variants) (c : Dev nD) (bd : Option 𝒱.V) (E : Set ℕ)
variable (i : grid0.Coords) (arg1 : Memref sig .tc .smem S120 .i32) (harg1 : arg1.IsWhole)
  (arg2 : Memref sig .tc .smem S1x1x512 .i32) (harg2 : arg2.IsWhole) (arg3 : Memref sig .tc .smem S1x1x512 .f32) (harg3 : arg3.IsWhole)
  (arg4 : Memref sig .tc .vmem S1x256x256 .bf16) (harg4 : arg4.IsWhole) (arg5 : Memref sig .tc .vmem S128x128 .f32) (harg5 : arg5.IsWhole)

theorem wp_trip (I : IVec S1x1x512 32) (C : FVec F S1x1x512 .f32) (X : FVec F S128x128 .f32) (v : BitVec 32) (hw : k0_chk1 v)
    (k : Fin (k0_t1_loop v).trips) (hk : k.val < 256)
    (hi : (word I (2 * k.val)).toNat < 128) (hj : (word I (2 * k.val + 1)).toNat < 128) (Q : BitVec 32 → sProp 𝕄) :
    iprop(owns (c.tc : Thread nD τ) arg2 fullShare I ∗ owns (c.tc : Thread nD τ) arg3 fullShare C
        ∗ owns (c.tc : Thread nD τ) arg5 fullShare X
        ∗ (iprop(owns (c.tc : Thread nD τ) arg2 fullShare I ∗ owns (c.tc : Thread nD τ) arg3 fullShare C
          ∗ owns (c.tc : Thread nD τ) arg5 fullShare (turned (word C (2 * k.val)) (word C (2 * k.val + 1))
              (word I (2 * k.val)).toNat (word I (2 * k.val + 1)).toNat X)) -∗ Q 0#32))
      ⊢ wp frame (wpE defs' 𝒱 (c.tc : Thread nD τ) bd) E
          (k0_part1 i arg1 harg1 arg2 harg2 arg3 harg3 arg4 harg4 arg5 harg5 v hw 0#32 1#32 k) Q := by
  rw [k0_part1_eq_skeleton]
  iintro ⟨HI, HC, HX, Hk⟩
  iapply (wp_word 𝒱 (c.tc : Thread nD τ) bd E (Q := Q) (m := arg2) (X := I) (x := word I (2 * k.val))
    (h1 := numel1_S1x1x1) (hp := rfl)
    (read_word (n := 2 * k.val) rfl rfl (even_eq v k hk) (by omega) I)) $$ [HI]
  · iexact HI
  iintro HI
  iapply (wp_assume 𝒱 (c.tc : Thread nD τ) bd E (first_ok _ hi))
  iapply (wp_word 𝒱 (c.tc : Thread nD τ) bd E (Q := Q) (m := arg2) (X := I) (x := word I (2 * k.val + 1))
    (h1 := numel1_S1x1x1) (hp := rfl)
    (read_word (n := 2 * k.val + 1) rfl rfl (odd_eq v k hk) (by omega) I)) $$ [HI]
  · iexact HI
  iintro HI
  iapply (wp_assume 𝒱 (c.tc : Thread nD τ) bd E (second_ok _ hj))
  iapply (wp_word 𝒱 (c.tc : Thread nD τ) bd E (Q := Q) (m := arg3) (X := C) (x := word C (2 * k.val))
    (h1 := numel1_S1x1x1) (hp := rfl)
    (read_word (n := 2 * k.val) rfl rfl (even_eq v k hk) (by omega) C)) $$ [HC]
  · iexact HC
  iintro HC
  iapply (wp_word 𝒱 (c.tc : Thread nD τ) bd E (Q := Q) (m := arg3) (X := C) (x := word C (2 * k.val + 1))
    (h1 := numel1_S1x1x1) (hp := rfl)
    (read_word (n := 2 * k.val + 1) rfl rfl (odd_eq v k hk) (by omega) C)) $$ [HC]
  · iexact HC
  iintro HC
  iapply (wp_load_owns 𝒱 (c.tc : Thread nD τ) bd E (Q := Q) (m := arg5) (X := X)
    (r := Rect.unit (s := S128x128) (k0_off4 (word I (2 * k.val))) S1x128.size (k0_off4_inb _ (first_ok _ hi)))) $$ [HX]
  · iexact HX
  iintro HX
  rw [read_row (n := (word I (2 * k.val)).toNat) rfl rfl hi X]
  iapply (wp_load_owns 𝒱 (c.tc : Thread nD τ) bd E (Q := Q) (m := arg5) (X := X)
    (r := Rect.unit (s := S128x128) (k0_off5 (word I (2 * k.val + 1))) S1x128.size (k0_off5_inb _ (second_ok _ hj)))) $$ [HX]
  · iexact HX
  iintro HX
  rw [read_row (n := (word I (2 * k.val + 1)).toNat) rfl rfl hj X]
  iapply (wp_load_owns 𝒱 (c.tc : Thread nD τ) bd E (Q := Q) (m := arg5) (X := X)
    (r := Rect.unit (s := S128x128) (k0_off5 (word I (2 * k.val + 1))) S1x128.size (k0_off5_inb _ (second_ok _ hj)))) $$ [HX]
  · iexact HX
  iintro HX
  iapply (wp_store_owns 𝒱 (c.tc : Thread nD τ) bd E (Q := Q) (m := arg5)
    (r := Rect.unit (s := S128x128) (k0_off5 (word I (2 * k.val + 1))) S1x128.size (k0_off5_inb _ (second_ok _ hj)))
    (fun Z h1 h2 => write_row (n := (word I (2 * k.val + 1)).toNat) rfl rfl hj X _ Z h1 h2)) $$ [HX]
  · iexact HX
  iintro HX
  iapply (wp_load_owns 𝒱 (c.tc : Thread nD τ) bd E (Q := Q) (m := arg5)
    (r := Rect.unit (s := S128x128) (k0_off6 (word I (2 * k.val))) S1x128.size (k0_off6_inb _ (first_ok _ hi)))) $$ [HX]
  · iexact HX
  iintro HX
  iapply (wp_store_owns 𝒱 (c.tc : Thread nD τ) bd E (Q := Q) (m := arg5)
    (r := Rect.unit (s := S128x128) (k0_off6 (word I (2 * k.val))) S1x128.size (k0_off6_inb _ (first_ok _ hi)))
    (fun Z h1 h2 => write_row (n := (word I (2 * k.val)).toNat) rfl rfl hi _ _ Z h1 h2)) $$ [HX]
  · iexact HX
  iintro HX
  iapply (le_wp_pure 𝒱 (c.tc : Thread nD τ) bd E)
  rw [pay_second, pay_first]
  iapply Hk
  isplitl [HI]; · iexact HI
  isplitl [HC]; · iexact HC
  iexact HX

/-! ## The loops -/

theorem wp_trips (I : IVec S1x1x512 32) (C : FVec F S1x1x512 .f32) (X : FVec F S128x128 .f32) (v : BitVec 32) (hw : k0_chk1 v)
    (hv : v.toInt ≤ 256) (hI : ∀ k : ℕ, k < v.toInt.toNat → (word I (2 * k)).toNat < 128 ∧ (word I (2 * k + 1)).toNat < 128)
    {α : Type} (kk : BitVec 32 → Prog (TpuEff nD τ sig (Elt F) Λ₀ .tc) α) (Q : α → sProp 𝕄) :
    iprop(owns (c.tc : Thread nD τ) arg2 fullShare I ∗ owns (c.tc : Thread nD τ) arg3 fullShare C
        ∗ owns (c.tc : Thread nD τ) arg5 fullShare X)
      ⊢ iprop((∀ a, iprop(owns (c.tc : Thread nD τ) arg2 fullShare I ∗ owns (c.tc : Thread nD τ) arg3 fullShare C
          ∗ owns (c.tc : Thread nD τ) arg5 fullShare (composed I C X v.toInt.toNat))
            -∗ wp frame (wpE defs' 𝒱 (c.tc : Thread nD τ) bd) E (kk a) Q)
        -∗ wp frame (wpE defs' 𝒱 (c.tc : Thread nD τ) bd) E
          (Scf.Loop.for (k0_t1_loop v) (k0_t1_ok v hw) 0#32
            (k0_t1_body i arg1 harg1 arg2 harg2 arg3 harg3 arg4 harg4 arg5 harg5 v hw) >>= kk) Q) := by
  have h := Scf.wp_for_bind frame (wpE defs' 𝒱 (c.tc : Thread nD τ) bd) E _ _ _ (k0_t1_ok v hw) 0#32
    (k0_t1_body i arg1 harg1 arg2 harg2 arg3 harg3 arg4 harg4 arg5 harg5 v hw)
    (fun k _ => iprop(owns (c.tc : Thread nD τ) arg2 fullShare I ∗ owns (c.tc : Thread nD τ) arg3 fullShare C
          ∗ owns (c.tc : Thread nD τ) arg5 fullShare (composed I C X k)))
    (fun k acc => by
      have hk : k.val < v.toInt.toNat := lt_of_lt_of_eq k.isLt (trips_eq v)
      have hIk := hI k.val hk
      unfold k0_t1_body
      iintro ⟨HI, HC, HX⟩
      iapply (wp_trip 𝒱 c bd E i arg1 harg1 arg2 harg2 arg3 harg3 arg4 harg4 arg5 harg5 I C (composed I C X k.val) v hw k
        (by omega) hIk.1 hIk.2)
      isplitl [HI]; · iexact HI
      isplitl [HC]; · iexact HC
      isplitl [HX]; · iexact HX
      iintro H
      iexact H) (kk := kk) (Q := Q)
  rw [show Scf.trips _ _ _ = v.toInt.toNat from trips_eq v] at h
  exact h

/-- The second loop makes no trip. -/
theorem rest_eq (v : BitVec 32) (hw : k0_chk1 v) (a w : BitVec 32) :
    Scf.Loop.for (k0_t2_loop v) (k0_t2_ok v hw) a (k0_t2_body (F := F) i arg1 harg1 arg2 harg2 arg3 harg3 arg4 harg4 arg5 harg5 v hw w)
      = .ret a :=
  Scf.for_eq_ret _ _ _ (k0_t2_ok v hw) a _ (trips_rest v)

/-! ## The body -/

theorem wp_compose (N : IVec S120 32) (I : IVec S1x1x512 32) (C : FVec F S1x1x512 .f32) (n : Fin 120) (hn : k0_off1 i 0 = n.val)
    (hv : (N (ix1 (n0 := 120) n)).toInt ≤ 256)
    (hI : ∀ k : ℕ, k < (N (ix1 (n0 := 120) n)).toInt.toNat → (word I (2 * k)).toNat < 128 ∧ (word I (2 * k + 1)).toNat < 128)
    (Q : PUnit → sProp 𝕄) :
    iprop(owns (c.tc : Thread nD τ) arg1 fullShare N ∗ owns (c.tc : Thread nD τ) arg2 fullShare I
        ∗ owns (c.tc : Thread nD τ) arg3 fullShare C ∗ (∃ d, owns (c.tc : Thread nD τ) arg4 fullShare d)
        ∗ (∃ d, owns (c.tc : Thread nD τ) arg5 fullShare d)
        ∗ (iprop(owns (c.tc : Thread nD τ) arg1 fullShare N ∗ owns (c.tc : Thread nD τ) arg2 fullShare I
          ∗ owns (c.tc : Thread nD τ) arg3 fullShare C
          ∗ owns (c.tc : Thread nD τ) arg4 fullShare (k0_pay2 (composed I C k0_pay1 (N (ix1 (n0 := 120) n)).toInt.toNat))
          ∗ (∃ d, owns (c.tc : Thread nD τ) arg5 fullShare d)) -∗ Q ⟨⟩))
      ⊢ wp frame (wpE defs' 𝒱 (c.tc : Thread nD τ) bd) E
          (cc0_compose (F := F) i arg1 harg1 arg2 harg2 arg3 harg3 arg4 harg4 arg5 harg5) Q := by
  rw [cc0_compose_eq_skeleton]
  unfold cc0_compose_skel
  simp only [rest_eq]
  iintro ⟨HN, HI, HC, ⟨%d4, H4⟩, ⟨%d5, HX⟩, Hk⟩
  iapply (wp_load_owns 𝒱 (c.tc : Thread nD τ) bd E (Q := Q) (m := arg5)) $$ [HX]
  · iexact HX
  iintro HX
  iapply (wp_store_owns 𝒱 (c.tc : Thread nD τ) bd E (Q := Q) (m := arg5)
    (Y := k0_pay1) (fun Z h1 h2 => funext fun y => (congrArg Z (emb_all y)).symm.trans (h1 y))) $$ [HX]
  · iexact HX
  iintro HX
  iapply (wp_word 𝒱 (c.tc : Thread nD τ) bd E (Q := Q) (m := arg1) (X := N) (x := N (ix1 (n0 := 120) n))
    (h1 := numel1_S1) (hp := rfl) (read_count (n := n) hn N)) $$ [HN]
  · iexact HN
  iintro HN
  iapply (wp_assume 𝒱 (c.tc : Thread nD τ) bd E (count_ok _ hv))
  iapply (wp_trips 𝒱 c bd E i arg1 harg1 arg2 harg2 arg3 harg3 arg4 harg4 arg5 harg5 I C k0_pay1 _ (count_ok _ hv) hv hI) $$ [HI HC HX]
  · isplitl [HI]; · iexact HI
    isplitl [HC]; · iexact HC
    iexact HX
  iintro %a ⟨HI, HC, HX⟩
  iapply (wp_load_owns 𝒱 (c.tc : Thread nD τ) bd E (Q := Q) (m := arg5)) $$ [HX]
  · iexact HX
  iintro HX
  iapply (wp_load_owns 𝒱 (c.tc : Thread nD τ) bd E (Q := Q) (m := arg4)) $$ [H4]
  · iexact H4
  iintro H4
  iapply (wp_store_owns 𝒱 (c.tc : Thread nD τ) bd E (Q := Q) (m := arg4)
    (Y := k0_pay2 (composed I C k0_pay1 (N (ix1 (n0 := 120) n)).toInt.toNat))
    (fun Z h1 h2 => funext fun y => (congrArg Z (emb_out y)).symm.trans ((h1 y).trans
      (congrFun (congrArg k0_pay2 (funext fun z => congrArg _ (emb_all z))) y)))) $$ [H4]
  · iexact H4
  iintro H4
  iapply (le_wp_pure 𝒱 (c.tc : Thread nD τ) bd E)
  iapply Hk
  isplitl [HN]; · iexact HN
  isplitl [HI]; · iexact HI
  isplitl [HC]; · iexact HC
  isplitl [H4]; · iexact H4
  iexists _; iexact HX

end Run

end Cert.Compose.Gen

end
-- ==== Proof.ComposePre.lean ====
/- What `rotations_in_block` says: a block has at most 256 rotations, and each it counts names two rows of the 128. -/
module

public import proofs.«01_k».proof.Proof.Gen.Pre_rotations_in_block
public import proofs.«01_k».proof.Proof.ComposeSpec
public import Idealize.ShloMosaic.Lib.Tactic
public import Idealize.ShloMosaic.Lib.Pointwise

@[expose] public section

noncomputable section

namespace Cert.Composition

open Idealize.ShloMosaic
open Cert.Pre_rotations_in_block (fn)

abbrev S120x256x2 : Shape := ⟨3, ![120, 256, 2]⟩
abbrev S120x1x512 : Shape := ⟨3, ![120, 1, 512]⟩

variable {F : FTy → Type} [FloatOps F]

/-- The counts and the counted indices are in range. -/
structure InBlock (I : IVec S120x256x2 32) (N : IVec S120 32) : Prop where
  count : ∀ n : Fin 120, (N (ix1 n)).toInt ≤ 256
  rows : ∀ (n : Fin 120) (k : Fin 256) (a : Fin 2), (k.val : ℤ) < (N (ix1 n)).toInt → (I (ix3 n k a)).toNat < 128

theorem fn_apply (I : IVec S120x256x2 32) (C : FVec F S120x256x2 .f32) (N : IVec S120 32) (n : Fin 120) (k : Fin 256) (a : Fin 2) :
    fn (F := F) I C N (ix3 n k a)
      = IntOp.andi (IntOp.cmpi .sle (N (ix1 n)) 256#32)
          (IntOp.ori (~~~ IntOp.cmpi .slt (BitVec.ofNat 32 k.val) (N (ix1 n)))
            (IntOp.andi (IntOp.cmpi .sge (I (ix3 n k a)) 0#32) (IntOp.cmpi .slt (I (ix3 n k a)) 128#32))) := by
  pointwise [fn]

theorem bit (a b c d : Bool) (h : IntOp.andi (BitVec.ofBool a) (IntOp.ori (~~~ BitVec.ofBool b) (IntOp.andi (BitVec.ofBool c) (BitVec.ofBool d))) = 1#1) :
    a = true ∧ (b = true → c = true ∧ d = true) := by
  revert h; cases a <;> cases b <;> cases c <;> cases d <;> decide

theorem in_block {I : IVec S120x256x2 32} {C : FVec F S120x256x2 .f32} {N : IVec S120 32} (h : fn (F := F) I C N = fun _ => 1#1) :
    InBlock I N := by
  have hb : ∀ (n : Fin 120) (k : Fin 256) (a : Fin 2), (N (ix1 n)).toInt ≤ 256
      ∧ ((k.val : ℤ) < (N (ix1 n)).toInt → (I (ix3 n k a)).toNat < 128) := fun n k a => by
    have h1 := (fn_apply I C N n k a).symm.trans (congrFun h _)
    obtain ⟨h2, h3⟩ := bit _ _ _ _ h1
    have h4 : (256#32 : BitVec 32).toInt = 256 := by decide
    have h5 : (0#32 : BitVec 32).toInt = 0 := by decide
    have h6 : (128#32 : BitVec 32).toInt = 128 := by decide
    refine ⟨h4 ▸ BitVec.sle_iff_toInt_le.mp h2, fun hk => ?_⟩
    have h7 : (BitVec.ofNat 32 k.val).toInt = k.val := by
      have := k.isLt
      rw [BitVec.toInt_eq_toNat_bmod, BitVec.toNat_ofNat]
      simp only [Int.bmod]
      split <;> omega
    obtain ⟨h8, h9⟩ := h3 (BitVec.slt_iff_toInt_lt.mpr (by rw [h7]; exact hk))
    have h10 := BitVec.sle_iff_toInt_le.mp h8
    have h11 := BitVec.slt_iff_toInt_lt.mp h9
    rw [h5] at h10; rw [h6] at h11
    rw [BitVec.toInt_eq_toNat_bmod] at h10 h11
    have := (I (ix3 n k a)).isLt
    simp only [Int.bmod] at h10 h11
    split at h10 <;> omega
  exact ⟨fun n => (hb n 0 0).1, fun n k a => (hb n k a).2⟩

/-- The pairs of a block laid out as a row of 512. -/
theorem row_flat {α : Type} (A : S120x256x2.Idx → α) (h : S120x256x2.ShapeCasts S120x1x512) (n : Fin 120) (j : Fin 512) :
    shapeCast S120x1x512 A h (ix3 n 0 j) = A (ix3 n ⟨j.val / 2, by omega⟩ ⟨j.val % 2, by omega⟩) := by
  pointwise

end Cert.Composition

end
-- ==== Proof.ComposeFrame.lean ====
/- The composition kernel's run, from its body (`Proof/ComposeBody.lean`): at grid point `n` the body leaves the packed
   composition of block `n`'s rotations in the output window. The scratch is set anew at every point, so nothing is carried
   from point to point. The precondition is what the body assumes of the words it reads. -/
module

public import proofs.«01_k».proof.Proof.ComposeBody
public import proofs.«01_k».proof.Proof.ComposePre
public import Idealize.ShloMosaic.Lib.Pipeline.Regions
public import Idealize.ShloMosaic.Lib.Pipeline.Value
public import Idealize.ShloMosaic.Lib.Claim

@[expose] public section

set_option maxRecDepth 65536

noncomputable section

namespace Cert.Compose.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Composition (word composed InBlock row_flat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words of a point -/

abbrev pairs (c : Dev nD) : IVec S120x256x2 32 := m ((c : Thread nD τ).loc main_arg0)
abbrev coefs (c : Dev nD) : FVec F S120x256x2 .f32 := m ((c : Thread nD τ).loc main_arg1)
abbrev counts (c : Dev nD) : IVec S120 32 := m ((c : Thread nD τ).loc main_arg2)

/-- The block of point `t`. -/
abbrev blk (t : Fin cfg0.N) : Fin 120 := ⟨t.val, lt_of_lt_of_eq t.isLt N_0⟩

abbrev inN (c : Dev nD) (t : Fin cfg0.N) : IVec S120 32 := iblk m c 0 t
abbrev inI (c : Dev nD) (t : Fin cfg0.N) : IVec S1x1x512 32 := iblk m c 1 t
abbrev inC (c : Dev nD) (t : Fin cfg0.N) : FVec F S1x1x512 .f32 := iblk m c 2 t

theorem point (t : Fin cfg0.N) : k0_off1 (grid0.coords t) 0 = t.val :=
  (by decide +kernel : ∀ t : Fin grid0.N, k0_off1 (grid0.coords t) 0 = t.val) t

theorem idx_in (t : Fin cfg0.N) : win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 0)) t

theorem inN_eq (c : Dev nD) (t : Fin cfg0.N) : inN m c t = counts m c := by
  funext j
  unfold inN iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 120 + 1 * (j 0).val = (j 0).val; rw [(idx_in t).1]; omega

theorem V_v0 (c : Dev nD) : V m c main_v0 = shapeCast S120x1x512 (pairs m c) shapeCasts_S120x256x2_S120x1x512 := by
  entry_read
  rfl
theorem V_v1 (c : Dev nD) : V m c main_v1 = shapeCast S120x1x512 (coefs m c) shapeCasts_S120x256x2_S120x1x512 := by
  entry_read
  rfl

/-- Word `n` of point `t`'s indices, -/
theorem word_inI (c : Dev nD) (t : Fin cfg0.N) (n : ℕ) (hn : n < 512) :
    word (inI m c t) n = pairs m c (ix3 (blk t) ⟨n / 2, by omega⟩ ⟨n % 2, by omega⟩) := by
  have hi := (idx_in t).2.1
  unfold word inI iblk
  rw [View.read_apply]
  show V m c main_v0 _ = _
  rw [V_v0, show ((cfg0.win 1).blk t).view.emb (ix3 (n0 := 1) (n1 := 1) (n2 := 512) 0 0 ⟨n % 512, Nat.mod_lt _ (by decide)⟩)
      = ix3 (n0 := 120) (n1 := 1) (n2 := 512) (blk t) 0 ⟨n, hn⟩ from funext fun a => Fin.ext (by
        match a with
        | ⟨0, _⟩ => show win0_1.index t 0 * 1 + 1 * 0 = t.val; rw [hi.1]; omega
        | ⟨1, _⟩ => show win0_1.index t 1 * 1 + 1 * 0 = 0; rw [hi.2.1]
        | ⟨2, _⟩ => show win0_1.index t 2 * 512 + 1 * (n % 512) = n; rw [hi.2.2]; omega)]
  exact row_flat _ _ _ _

/-- and of its coefficients. -/
theorem word_inC (c : Dev nD) (t : Fin cfg0.N) (n : ℕ) (hn : n < 512) :
    word (inC m c t) n = coefs m c (ix3 (blk t) ⟨n / 2, by omega⟩ ⟨n % 2, by omega⟩) := by
  have hi := (idx_in t).2.2
  unfold word inC iblk
  rw [View.read_apply]
  show V m c main_v1 _ = _
  rw [V_v1, show ((cfg0.win 2).blk t).view.emb (ix3 (n0 := 1) (n1 := 1) (n2 := 512) 0 0 ⟨n % 512, Nat.mod_lt _ (by decide)⟩)
      = ix3 (n0 := 120) (n1 := 1) (n2 := 512) (blk t) 0 ⟨n, hn⟩ from funext fun a => Fin.ext (by
        match a with
        | ⟨0, _⟩ => show win0_2.index t 0 * 1 + 1 * 0 = t.val; rw [hi.1]; omega
        | ⟨1, _⟩ => show win0_2.index t 1 * 1 + 1 * 0 = 0; rw [hi.2.1]
        | ⟨2, _⟩ => show win0_2.index t 2 * 512 + 1 * (n % 512) = n; rw [hi.2.2]; omega)]
  exact row_flat _ _ _ _

/-- The composition of point `t`'s block. -/
def matAt (c : Dev nD) (t : Fin cfg0.N) : FVec F S128x128 .f32 :=
  composed (inI m c t) (inC m c t) k0_pay1 (inN m c t (ix1 (blk t))).toInt.toNat

/-! ## The proof data -/

abbrev ms0_0 (t : Fin cfg0.N) : Memref sig .tc .smem S120 .i32 := win0_0.stage (cfg0.slots t 0)
abbrev ms0_1 (t : Fin cfg0.N) : Memref sig .tc .smem S1x1x512 .i32 := win0_1.stage (cfg0.slots t 1)
abbrev ms0_2 (t : Fin cfg0.N) : Memref sig .tc .smem S1x1x512 .f32 := win0_2.stage (cfg0.slots t 2)
abbrev ms0_3 (t : Fin cfg0.N) : Memref sig .tc .vmem S1x256x256 .bf16 := win0_3.stage (cfg0.slots t 3)
abbrev scM0_0 : Memref sig .tc .vmem S128x128 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The proof data: inputs at their blocks, the output the packed composition. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (matAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (matAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

variable (hpre : ∀ c : Dev nD, InBlock (pairs m c) (counts m c))

include hpre

theorem count_le (c : Dev nD) (t : Fin cfg0.N) : (inN m c t (ix1 (blk t))).toInt ≤ 256 := by
  rw [inN_eq]; exact (hpre c).count _

theorem rows_lt (c : Dev nD) (t : Fin cfg0.N) (k : ℕ) (hk : k < (inN m c t (ix1 (blk t))).toInt.toNat) :
    (word (inI m c t) (2 * k)).toNat < 128 ∧ (word (inI m c t) (2 * k + 1)).toNat < 128 := by
  have hc := count_le m hpre c t
  rw [word_inI m c t (2 * k) (by omega), word_inI m c t (2 * k + 1) (by omega)]
  rw [inN_eq] at hk hc
  exact ⟨(hpre c).rows _ _ _ (by show ((2 * k / 2 : ℕ) : ℤ) < _; omega), (hpre c).rows _ _ _ (by show (((2 * k + 1) / 2 : ℕ) : ℤ) < _; omega)⟩

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves_live m c 0 t rfl, leaves_live m c 1 t rfl, leaves_live m c 2 t rfl, leaves_live m c 3 t rfl,
    after0_0, after0_1, after0_2, after0_3]
  iintro ⟨⟨HS, Hg⟩, Ho, ⟨%d0, H0⟩, ⟨%d1, H1⟩, ⟨%d2, H2⟩, ⟨%d3, H3⟩⟩
  iapply (wp_compose Variants.none c none Set.univ (grid0.coords t) (ms0_0 t) _ (ms0_1 t) _ (ms0_2 t) _ (ms0_3 t) _ scM0_0 _
    (inN m c t) (inI m c t) (inC m c t) (blk t) (point t) (count_le m hpre c t) (rows_lt m hpre c t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

omit hpre in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hpre c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hpre c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- Every run ends, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ hpre)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ hpre)) ((θ_run defs _ _).mono (fun _ h => h.2) (run_main_quiescent m ρ hpre))

end Cert.Compose.Gen

end
-- ==== Proof.ComposeIdealBody.lean ====
/- The composition kernel's body at a grid point, run.

   The body sets the scratch matrix to the identity, reads how many rotations its block has, applies them one by one
   and stores the packed transpose. The run needs what the body assumes of the words it reads: at most 256 rotations, each
   naming two rows of the 128. The second printed loop, over what the trips by one leave over, makes no trip. -/
module

public import proofs.«01_k».proof.Proof.Gen.ComposeIdeal.Frame
public import proofs.«01_k».proof.Proof.Gen.ComposeIdeal.Skeleton
public import proofs.«01_k».proof.Proof.ComposeSpec
public import Idealize.ShloMosaic.Lib.LoopRemainder
public import Idealize.ShloMosaic.Lib.Pointwise.Reshape

@[expose] public section

set_option maxRecDepth 65536

noncomputable section

namespace Cert.ComposeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Rotation (wp_load_owns wp_store_owns wp_seq le_wp_pure)
open Cert.Composition (rowOf setRow word turnI turnJ turned composed read_row write_row read_word read_count emb_all emb_out)

variable {F : FTy → Type} [FloatOps F]

local notation "𝕄" => MT nD τ sig Unit (Elt F) ℕ (UR sig nD τ) ℕ

/-! ## The words the body assumes something of -/

theorem trips_eq (v : BitVec 32) : (k0_t1_loop v).trips = v.toInt.toNat := by
  show Scf.trips 0#32 (Scalar.addi 0#32 (Scalar.muli (Scalar.divsi (Scalar.subi v 0#32) 1#32) 1#32)) 1#32 = _
  rw [Scalar.muli_divsi_one]
  show Scf.trips 0#32 (0#32 + (v - 0#32)) 1#32 = _
  rw [BitVec.sub_zero, BitVec.zero_add]
  unfold Scf.trips
  have h0 : (0#32 : BitVec 32).toInt = 0 := by decide
  have h1 : (1#32 : BitVec 32).toInt = 1 := by decide
  rw [h0, h1]
  omega

theorem trips_rest (v : BitVec 32) : (k0_t2_loop v).trips = 0 := Scf.rem_trips 0#32 (Scalar.subi v 0#32)

theorem even_eq (v : BitVec 32) (k : Fin (k0_t1_loop v).trips) (hk : k.val < 256) : k0_off2 v k 2 = 2 * k.val := by
  show (2#32 * (0#32 + BitVec.ofNat 32 k.val * 1#32)).toNat = _
  rw [BitVec.zero_add, BitVec.mul_one, BitVec.toNat_mul, BitVec.toNat_ofNat]
  show (2 * (k.val % 2 ^ 32)) % 2 ^ 32 = _
  omega

theorem odd_eq (v : BitVec 32) (k : Fin (k0_t1_loop v).trips) (hk : k.val < 256) : k0_off3 v k 2 = 2 * k.val + 1 := by
  show (2#32 * (0#32 + BitVec.ofNat 32 k.val * 1#32) + 1#32).toNat = _
  rw [BitVec.zero_add, BitVec.mul_one, BitVec.toNat_add, BitVec.toNat_mul, BitVec.toNat_ofNat]
  show ((2 * (k.val % 2 ^ 32)) % 2 ^ 32 + 1) % 2 ^ 32 = _
  omega

theorem count_ok (v : BitVec 32) (hv : v.toInt ≤ 256) : k0_chk1 v := by
  have ht : ∀ k : Fin (k0_t1_loop v).trips, k.val < 256 := fun k => by
    have := k.isLt; have h := trips_eq v; omega
  refine ⟨?_, fun k a => ?_, fun k a => ?_, Scf.rem_ok 0#32 (Scalar.subi v 0#32), fun k => ?_, fun k => ?_⟩
  · refine ⟨by show 0 < (1#32 : BitVec 32).toInt; decide, ?_⟩
    show (0#32 : BitVec 32).toInt + ((k0_t1_loop v).trips : ℤ) * (1#32 : BitVec 32).toInt < 2 ^ 31
    have h0 : (0#32 : BitVec 32).toInt = 0 := by decide
    have h1 : (1#32 : BitVec 32).toInt = 1 := by decide
    rw [h0, h1, trips_eq]; omega
  · have := even_eq v k (ht k); have := ht k
    match a with
    | ⟨0, _⟩ => exact Nat.le_refl 1
    | ⟨1, _⟩ => exact Nat.le_refl 1
    | ⟨2, _⟩ => show k0_off2 v k 2 + 1 ≤ 512; omega
  · have := odd_eq v k (ht k); have := ht k
    match a with
    | ⟨0, _⟩ => exact Nat.le_refl 1
    | ⟨1, _⟩ => exact Nat.le_refl 1
    | ⟨2, _⟩ => show k0_off3 v k 2 + 1 ≤ 512; omega
  · exact absurd (lt_of_lt_of_eq k.isLt (trips_rest v)) (Nat.not_lt_zero _)
  · exact absurd (lt_of_lt_of_eq k.isLt (trips_rest v)) (Nat.not_lt_zero _)

theorem row_in {v : BitVec 32} (hv : v.toNat < 128) : ∀ a, (![v.toNat, 0] : Fin 2 → ℕ) a + S1x128.size a ≤ S128x128.size a := fun a =>
  match a with
  | ⟨0, _⟩ => by show v.toNat + 1 ≤ 128; omega
  | ⟨1, _⟩ => Nat.le_refl 128

theorem first_ok (v : BitVec 32) (hv : v.toNat < 128) : k0_chk2 v := ⟨row_in hv, row_in hv⟩
theorem second_ok (v : BitVec 32) (hv : v.toNat < 128) : k0_chk3 v := row_in hv

theorem pay_second (c s : F .f32) (ri rj : FVec F S1x128 .f32) : k0_pay3 c s ri rj = turnJ c s ri rj := by
  unfold k0_pay3; exact shapeCast_id _ _
theorem pay_first (c s : F .f32) (ri rj : FVec F S1x128 .f32) : k0_pay4 c s ri rj = turnI c s ri rj := by
  unfold k0_pay4; exact shapeCast_id _ _

/-! ## One word -/

/-- Loading the one word `x` of a buffer held at `X`. -/
theorem wp_word {α : Type} {defs' : Defs nD τ sig (Elt F) Λ₀} (𝒱 : Variants) (c : Thread nD τ) (bd : Option 𝒱.V) (E : Set ℕ)
    {s : Shape} {e : EltTy} {m : Memref sig c.2.kind .smem s e} {r : Rect s} {h1 : r.shape.numel = 1} {hp : e.packing = 1}
    {k : Elt F e → Prog (TpuEff nD τ sig (Elt F) Λ₀ c.2) α} {Q : α → sProp 𝕄} {X : s.Idx → Elt F e} {x : Elt F e}
    (hx : ∀ y : r.shape.Idx, X (r.emb y) = x) :
    (owns c m fullShare X : sProp 𝕄)
      ⊢ iprop((owns c m fullShare X -∗ wp frame (wpE defs' 𝒱 c bd) E (k x) Q)
        -∗ wp frame (wpE defs' 𝒱 c bd) E (smemLoad m r h1 hp >>= k) Q) := by
  have h := wp_load_owns (defs := defs') 𝒱 c bd E (Q := Q) (m := m) (r := r) (hl := View.loadsAt_rect (View.loads_smem_one hp h1))
    (k := fun f => k (f (Shape.Idx.first (h1.symm ▸ Nat.one_pos)))) (q := fullShare) (X := X)
  rw [← hx (Shape.Idx.first (h1.symm ▸ Nat.one_pos))]
  exact h

/-! ## A trip -/

section Run

variable {defs' : Defs nD τ sig (Elt F) Λ₀} (𝒱 : Variants) (c : Dev nD) (bd : Option 𝒱.V) (E : Set ℕ)
variable (i : grid0.Coords) (arg1 : Memref sig .tc .smem S120 .i32) (harg1 : arg1.IsWhole)
  (arg2 : Memref sig .tc .smem S1x1x512 .i32) (harg2 : arg2.IsWhole) (arg3 : Memref sig .tc .smem S1x1x512 .f32) (harg3 : arg3.IsWhole)
  (arg4 : Memref sig .tc .vmem S1x256x256 .bf16) (harg4 : arg4.IsWhole) (arg5 : Memref sig .tc .vmem S128x128 .f32) (harg5 : arg5.IsWhole)

theorem wp_trip (I : IVec S1x1x512 32) (C : FVec F S1x1x512 .f32) (X : FVec F S128x128 .f32) (v : BitVec 32) (hw : k0_chk1 v)
    (k : Fin (k0_t1_loop v).trips) (hk : k.val < 256)
    (hi : (word I (2 * k.val)).toNat < 128) (hj : (word I (2 * k.val + 1)).toNat < 128) (Q : BitVec 32 → sProp 𝕄) :
    iprop(owns (c.tc : Thread nD τ) arg2 fullShare I ∗ owns (c.tc : Thread nD τ) arg3 fullShare C
        ∗ owns (c.tc : Thread nD τ) arg5 fullShare X
        ∗ (iprop(owns (c.tc : Thread nD τ) arg2 fullShare I ∗ owns (c.tc : Thread nD τ) arg3 fullShare C
          ∗ owns (c.tc : Thread nD τ) arg5 fullShare (turned (word C (2 * k.val)) (word C (2 * k.val + 1))
              (word I (2 * k.val)).toNat (word I (2 * k.val + 1)).toNat X)) -∗ Q 0#32))
      ⊢ wp frame (wpE defs' 𝒱 (c.tc : Thread nD τ) bd) E
          (k0_part1 i arg1 harg1 arg2 harg2 arg3 harg3 arg4 harg4 arg5 harg5 v hw 0#32 1#32 k) Q := by
  rw [k0_part1_eq_skeleton]
  iintro ⟨HI, HC, HX, Hk⟩
  iapply (wp_word 𝒱 (c.tc : Thread nD τ) bd E (Q := Q) (m := arg2) (X := I) (x := word I (2 * k.val))
    (h1 := numel1_S1x1x1) (hp := rfl)
    (read_word (n := 2 * k.val) rfl rfl (even_eq v k hk) (by omega) I)) $$ [HI]
  · iexact HI
  iintro HI
  iapply (wp_assume 𝒱 (c.tc : Thread nD τ) bd E (first_ok _ hi))
  iapply (wp_word 𝒱 (c.tc : Thread nD τ) bd E (Q := Q) (m := arg2) (X := I) (x := word I (2 * k.val + 1))
    (h1 := numel1_S1x1x1) (hp := rfl)
    (read_word (n := 2 * k.val + 1) rfl rfl (odd_eq v k hk) (by omega) I)) $$ [HI]
  · iexact HI
  iintro HI
  iapply (wp_assume 𝒱 (c.tc : Thread nD τ) bd E (second_ok _ hj))
  iapply (wp_word 𝒱 (c.tc : Thread nD τ) bd E (Q := Q) (m := arg3) (X := C) (x := word C (2 * k.val))
    (h1 := numel1_S1x1x1) (hp := rfl)
    (read_word (n := 2 * k.val) rfl rfl (even_eq v k hk) (by omega) C)) $$ [HC]
  · iexact HC
  iintro HC
  iapply (wp_word 𝒱 (c.tc : Thread nD τ) bd E (Q := Q) (m := arg3) (X := C) (x := word C (2 * k.val + 1))
    (h1 := numel1_S1x1x1) (hp := rfl)
    (read_word (n := 2 * k.val + 1) rfl rfl (odd_eq v k hk) (by omega) C)) $$ [HC]
  · iexact HC
  iintro HC
  iapply (wp_load_owns 𝒱 (c.tc : Thread nD τ) bd E (Q := Q) (m := arg5) (X := X)
    (r := Rect.unit (s := S128x128) (k0_off4 (word I (2 * k.val))) S1x128.size (k0_off4_inb _ (first_ok _ hi)))) $$ [HX]
  · iexact HX
  iintro HX
  rw [read_row (n := (word I (2 * k.val)).toNat) rfl rfl hi X]
  iapply (wp_load_owns 𝒱 (c.tc : Thread nD τ) bd E (Q := Q) (m := arg5) (X := X)
    (r := Rect.unit (s := S128x128) (k0_off5 (word I (2 * k.val + 1))) S1x128.size (k0_off5_inb _ (second_ok _ hj)))) $$ [HX]
  · iexact HX
  iintro HX
  rw [read_row (n := (word I (2 * k.val + 1)).toNat) rfl rfl hj X]
  iapply (wp_load_owns 𝒱 (c.tc : Thread nD τ) bd E (Q := Q) (m := arg5) (X := X)
    (r := Rect.unit (s := S128x128) (k0_off5 (word I (2 * k.val + 1))) S1x128.size (k0_off5_inb _ (second_ok _ hj)))) $$ [HX]
  · iexact HX
  iintro HX
  iapply (wp_store_owns 𝒱 (c.tc : Thread nD τ) bd E (Q := Q) (m := arg5)
    (r := Rect.unit (s := S128x128) (k0_off5 (word I (2 * k.val + 1))) S1x128.size (k0_off5_inb _ (second_ok _ hj)))
    (fun Z h1 h2 => write_row (n := (word I (2 * k.val + 1)).toNat) rfl rfl hj X _ Z h1 h2)) $$ [HX]
  · iexact HX
  iintro HX
  iapply (wp_load_owns 𝒱 (c.tc : Thread nD τ) bd E (Q := Q) (m := arg5)
    (r := Rect.unit (s := S128x128) (k0_off6 (word I (2 * k.val))) S1x128.size (k0_off6_inb _ (first_ok _ hi)))) $$ [HX]
  · iexact HX
  iintro HX
  iapply (wp_store_owns 𝒱 (c.tc : Thread nD τ) bd E (Q := Q) (m := arg5)
    (r := Rect.unit (s := S128x128) (k0_off6 (word I (2 * k.val))) S1x128.size (k0_off6_inb _ (first_ok _ hi)))
    (fun Z h1 h2 => write_row (n := (word I (2 * k.val)).toNat) rfl rfl hi _ _ Z h1 h2)) $$ [HX]
  · iexact HX
  iintro HX
  iapply (le_wp_pure 𝒱 (c.tc : Thread nD τ) bd E)
  rw [pay_second, pay_first]
  iapply Hk
  isplitl [HI]; · iexact HI
  isplitl [HC]; · iexact HC
  iexact HX

/-! ## The loops -/

theorem wp_trips (I : IVec S1x1x512 32) (C : FVec F S1x1x512 .f32) (X : FVec F S128x128 .f32) (v : BitVec 32) (hw : k0_chk1 v)
    (hv : v.toInt ≤ 256) (hI : ∀ k : ℕ, k < v.toInt.toNat → (word I (2 * k)).toNat < 128 ∧ (word I (2 * k + 1)).toNat < 128)
    {α : Type} (kk : BitVec 32 → Prog (TpuEff nD τ sig (Elt F) Λ₀ .tc) α) (Q : α → sProp 𝕄) :
    iprop(owns (c.tc : Thread nD τ) arg2 fullShare I ∗ owns (c.tc : Thread nD τ) arg3 fullShare C
        ∗ owns (c.tc : Thread nD τ) arg5 fullShare X)
      ⊢ iprop((∀ a, iprop(owns (c.tc : Thread nD τ) arg2 fullShare I ∗ owns (c.tc : Thread nD τ) arg3 fullShare C
          ∗ owns (c.tc : Thread nD τ) arg5 fullShare (composed I C X v.toInt.toNat))
            -∗ wp frame (wpE defs' 𝒱 (c.tc : Thread nD τ) bd) E (kk a) Q)
        -∗ wp frame (wpE defs' 𝒱 (c.tc : Thread nD τ) bd) E
          (Scf.Loop.for (k0_t1_loop v) (k0_t1_ok v hw) 0#32
            (k0_t1_body i arg1 harg1 arg2 harg2 arg3 harg3 arg4 harg4 arg5 harg5 v hw) >>= kk) Q) := by
  have h := Scf.wp_for_bind frame (wpE defs' 𝒱 (c.tc : Thread nD τ) bd) E _ _ _ (k0_t1_ok v hw) 0#32
    (k0_t1_body i arg1 harg1 arg2 harg2 arg3 harg3 arg4 harg4 arg5 harg5 v hw)
    (fun k _ => iprop(owns (c.tc : Thread nD τ) arg2 fullShare I ∗ owns (c.tc : Thread nD τ) arg3 fullShare C
          ∗ owns (c.tc : Thread nD τ) arg5 fullShare (composed I C X k)))
    (fun k acc => by
      have hk : k.val < v.toInt.toNat := lt_of_lt_of_eq k.isLt (trips_eq v)
      have hIk := hI k.val hk
      unfold k0_t1_body
      iintro ⟨HI, HC, HX⟩
      iapply (wp_trip 𝒱 c bd E i arg1 harg1 arg2 harg2 arg3 harg3 arg4 harg4 arg5 harg5 I C (composed I C X k.val) v hw k
        (by omega) hIk.1 hIk.2)
      isplitl [HI]; · iexact HI
      isplitl [HC]; · iexact HC
      isplitl [HX]; · iexact HX
      iintro H
      iexact H) (kk := kk) (Q := Q)
  rw [show Scf.trips _ _ _ = v.toInt.toNat from trips_eq v] at h
  exact h

/-- The second loop makes no trip. -/
theorem rest_eq (v : BitVec 32) (hw : k0_chk1 v) (a w : BitVec 32) :
    Scf.Loop.for (k0_t2_loop v) (k0_t2_ok v hw) a (k0_t2_body (F := F) i arg1 harg1 arg2 harg2 arg3 harg3 arg4 harg4 arg5 harg5 v hw w)
      = .ret a :=
  Scf.for_eq_ret _ _ _ (k0_t2_ok v hw) a _ (trips_rest v)

/-! ## The body -/

theorem wp_compose (N : IVec S120 32) (I : IVec S1x1x512 32) (C : FVec F S1x1x512 .f32) (n : Fin 120) (hn : k0_off1 i 0 = n.val)
    (hv : (N (ix1 (n0 := 120) n)).toInt ≤ 256)
    (hI : ∀ k : ℕ, k < (N (ix1 (n0 := 120) n)).toInt.toNat → (word I (2 * k)).toNat < 128 ∧ (word I (2 * k + 1)).toNat < 128)
    (Q : PUnit → sProp 𝕄) :
    iprop(owns (c.tc : Thread nD τ) arg1 fullShare N ∗ owns (c.tc : Thread nD τ) arg2 fullShare I
        ∗ owns (c.tc : Thread nD τ) arg3 fullShare C ∗ (∃ d, owns (c.tc : Thread nD τ) arg4 fullShare d)
        ∗ (∃ d, owns (c.tc : Thread nD τ) arg5 fullShare d)
        ∗ (iprop(owns (c.tc : Thread nD τ) arg1 fullShare N ∗ owns (c.tc : Thread nD τ) arg2 fullShare I
          ∗ owns (c.tc : Thread nD τ) arg3 fullShare C
          ∗ owns (c.tc : Thread nD τ) arg4 fullShare (k0_pay2 (composed I C k0_pay1 (N (ix1 (n0 := 120) n)).toInt.toNat))
          ∗ (∃ d, owns (c.tc : Thread nD τ) arg5 fullShare d)) -∗ Q ⟨⟩))
      ⊢ wp frame (wpE defs' 𝒱 (c.tc : Thread nD τ) bd) E
          (cc0_compose (F := F) i arg1 harg1 arg2 harg2 arg3 harg3 arg4 harg4 arg5 harg5) Q := by
  rw [cc0_compose_eq_skeleton]
  unfold cc0_compose_skel
  simp only [rest_eq]
  iintro ⟨HN, HI, HC, ⟨%d4, H4⟩, ⟨%d5, HX⟩, Hk⟩
  iapply (wp_load_owns 𝒱 (c.tc : Thread nD τ) bd E (Q := Q) (m := arg5)) $$ [HX]
  · iexact HX
  iintro HX
  iapply (wp_store_owns 𝒱 (c.tc : Thread nD τ) bd E (Q := Q) (m := arg5)
    (Y := k0_pay1) (fun Z h1 h2 => funext fun y => (congrArg Z (emb_all y)).symm.trans (h1 y))) $$ [HX]
  · iexact HX
  iintro HX
  iapply (wp_word 𝒱 (c.tc : Thread nD τ) bd E (Q := Q) (m := arg1) (X := N) (x := N (ix1 (n0 := 120) n))
    (h1 := numel1_S1) (hp := rfl) (read_count (n := n) hn N)) $$ [HN]
  · iexact HN
  iintro HN
  iapply (wp_assume 𝒱 (c.tc : Thread nD τ) bd E (count_ok _ hv))
  iapply (wp_trips 𝒱 c bd E i arg1 harg1 arg2 harg2 arg3 harg3 arg4 harg4 arg5 harg5 I C k0_pay1 _ (count_ok _ hv) hv hI) $$ [HI HC HX]
  · isplitl [HI]; · iexact HI
    isplitl [HC]; · iexact HC
    iexact HX
  iintro %a ⟨HI, HC, HX⟩
  iapply (wp_load_owns 𝒱 (c.tc : Thread nD τ) bd E (Q := Q) (m := arg5)) $$ [HX]
  · iexact HX
  iintro HX
  iapply (wp_load_owns 𝒱 (c.tc : Thread nD τ) bd E (Q := Q) (m := arg4)) $$ [H4]
  · iexact H4
  iintro H4
  iapply (wp_store_owns 𝒱 (c.tc : Thread nD τ) bd E (Q := Q) (m := arg4)
    (Y := k0_pay2 (composed I C k0_pay1 (N (ix1 (n0 := 120) n)).toInt.toNat))
    (fun Z h1 h2 => funext fun y => (congrArg Z (emb_out y)).symm.trans ((h1 y).trans
      (congrFun (congrArg k0_pay2 (funext fun z => congrArg _ (emb_all z))) y)))) $$ [H4]
  · iexact H4
  iintro H4
  iapply (le_wp_pure 𝒱 (c.tc : Thread nD τ) bd E)
  iapply Hk
  isplitl [HN]; · iexact HN
  isplitl [HI]; · iexact HI
  isplitl [HC]; · iexact HC
  isplitl [H4]; · iexact H4
  iexists _; iexact HX

end Run

end Cert.ComposeIdeal.Gen

end
-- ==== Proof.ComposeIdealFrame.lean ====
/- The composition kernel's run, from its body (`Proof/ComposeIdealBody.lean`): at grid point `n` the body leaves the packed
   composition of block `n`'s rotations in the output window. The scratch is set anew at every point, so nothing is carried
   from point to point. The precondition is what the body assumes of the words it reads. -/
module

public import proofs.«01_k».proof.Proof.ComposeIdealBody
public import proofs.«01_k».proof.Proof.ComposePre
public import Idealize.ShloMosaic.Lib.Pipeline.Regions
public import Idealize.ShloMosaic.Lib.Pipeline.Value
public import Idealize.ShloMosaic.Lib.Claim

@[expose] public section

set_option maxRecDepth 65536

noncomputable section

namespace Cert.ComposeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Composition (word composed InBlock row_flat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The words of a point -/

abbrev pairs (c : Dev nD) : IVec S120x256x2 32 := m ((c : Thread nD τ).loc main_arg0)
abbrev coefs (c : Dev nD) : FVec F S120x256x2 .f32 := m ((c : Thread nD τ).loc main_arg1)
abbrev counts (c : Dev nD) : IVec S120 32 := m ((c : Thread nD τ).loc main_arg2)

/-- The block of point `t`. -/
abbrev blk (t : Fin cfg0.N) : Fin 120 := ⟨t.val, lt_of_lt_of_eq t.isLt N_0⟩

abbrev inN (c : Dev nD) (t : Fin cfg0.N) : IVec S120 32 := iblk m c 0 t
abbrev inI (c : Dev nD) (t : Fin cfg0.N) : IVec S1x1x512 32 := iblk m c 1 t
abbrev inC (c : Dev nD) (t : Fin cfg0.N) : FVec F S1x1x512 .f32 := iblk m c 2 t

theorem point (t : Fin cfg0.N) : k0_off1 (grid0.coords t) 0 = t.val :=
  (by decide +kernel : ∀ t : Fin grid0.N, k0_off1 (grid0.coords t) 0 = t.val) t

theorem idx_in (t : Fin cfg0.N) : win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 0) :=
  (by decide +kernel : ∀ t : Fin grid0.N, win0_0.index t 0 = 0
    ∧ (win0_1.index t 0 = t.val ∧ win0_1.index t 1 = 0 ∧ win0_1.index t 2 = 0)
    ∧ (win0_2.index t 0 = t.val ∧ win0_2.index t 1 = 0 ∧ win0_2.index t 2 = 0)) t

theorem inN_eq (c : Dev nD) (t : Fin cfg0.N) : inN m c t = counts m c := by
  funext j
  unfold inN iblk
  rw [View.read_apply]
  show V m c main_arg2 _ = _
  rw [V_main_arg2]
  refine congrArg (m ((c : Thread nD τ).loc main_arg2)) (funext fun a => Fin.ext ?_)
  match a with
  | ⟨0, _⟩ => show win0_0.index t 0 * 120 + 1 * (j 0).val = (j 0).val; rw [(idx_in t).1]; omega

theorem V_v0 (c : Dev nD) : V m c main_v0 = shapeCast S120x1x512 (pairs m c) shapeCasts_S120x256x2_S120x1x512 := by
  entry_read
  rfl
theorem V_v1 (c : Dev nD) : V m c main_v1 = shapeCast S120x1x512 (coefs m c) shapeCasts_S120x256x2_S120x1x512 := by
  entry_read
  rfl

/-- Word `n` of point `t`'s indices, -/
theorem word_inI (c : Dev nD) (t : Fin cfg0.N) (n : ℕ) (hn : n < 512) :
    word (inI m c t) n = pairs m c (ix3 (blk t) ⟨n / 2, by omega⟩ ⟨n % 2, by omega⟩) := by
  have hi := (idx_in t).2.1
  unfold word inI iblk
  rw [View.read_apply]
  show V m c main_v0 _ = _
  rw [V_v0, show ((cfg0.win 1).blk t).view.emb (ix3 (n0 := 1) (n1 := 1) (n2 := 512) 0 0 ⟨n % 512, Nat.mod_lt _ (by decide)⟩)
      = ix3 (n0 := 120) (n1 := 1) (n2 := 512) (blk t) 0 ⟨n, hn⟩ from funext fun a => Fin.ext (by
        match a with
        | ⟨0, _⟩ => show win0_1.index t 0 * 1 + 1 * 0 = t.val; rw [hi.1]; omega
        | ⟨1, _⟩ => show win0_1.index t 1 * 1 + 1 * 0 = 0; rw [hi.2.1]
        | ⟨2, _⟩ => show win0_1.index t 2 * 512 + 1 * (n % 512) = n; rw [hi.2.2]; omega)]
  exact row_flat _ _ _ _

/-- and of its coefficients. -/
theorem word_inC (c : Dev nD) (t : Fin cfg0.N) (n : ℕ) (hn : n < 512) :
    word (inC m c t) n = coefs m c (ix3 (blk t) ⟨n / 2, by omega⟩ ⟨n % 2, by omega⟩) := by
  have hi := (idx_in t).2.2
  unfold word inC iblk
  rw [View.read_apply]
  show V m c main_v1 _ = _
  rw [V_v1, show ((cfg0.win 2).blk t).view.emb (ix3 (n0 := 1) (n1 := 1) (n2 := 512) 0 0 ⟨n % 512, Nat.mod_lt _ (by decide)⟩)
      = ix3 (n0 := 120) (n1 := 1) (n2 := 512) (blk t) 0 ⟨n, hn⟩ from funext fun a => Fin.ext (by
        match a with
        | ⟨0, _⟩ => show win0_2.index t 0 * 1 + 1 * 0 = t.val; rw [hi.1]; omega
        | ⟨1, _⟩ => show win0_2.index t 1 * 1 + 1 * 0 = 0; rw [hi.2.1]
        | ⟨2, _⟩ => show win0_2.index t 2 * 512 + 1 * (n % 512) = n; rw [hi.2.2]; omega)]
  exact row_flat _ _ _ _

/-- The composition of point `t`'s block. -/
def matAt (c : Dev nD) (t : Fin cfg0.N) : FVec F S128x128 .f32 :=
  composed (inI m c t) (inC m c t) k0_pay1 (inN m c t (ix1 (blk t))).toInt.toNat

/-! ## The proof data -/

abbrev ms0_0 (t : Fin cfg0.N) : Memref sig .tc .smem S120 .i32 := win0_0.stage (cfg0.slots t 0)
abbrev ms0_1 (t : Fin cfg0.N) : Memref sig .tc .smem S1x1x512 .i32 := win0_1.stage (cfg0.slots t 1)
abbrev ms0_2 (t : Fin cfg0.N) : Memref sig .tc .smem S1x1x512 .f32 := win0_2.stage (cfg0.slots t 2)
abbrev ms0_3 (t : Fin cfg0.N) : Memref sig .tc .vmem S1x256x256 .bf16 := win0_3.stage (cfg0.slots t 3)
abbrev scM0_0 : Memref sig .tc .vmem S128x128 .f32 := Memref.whole cc0_scratch0

theorem PhiA0_eq (c : Dev nD) :
    (Pipeline.ΦA spec0 c : sProp 𝕄) = iprop((∃ d, owns (c : Thread nD τ) scM0_0 fullShare d) ∗ (∃ r, prngReg c r)) := by
  unfold Pipeline.ΦA; rw [scopedRest0_eq]; simp only [scM0_0, owns_whole]; try rfl

/-- The proof data: inputs at their blocks, the output the packed composition. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (matAt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay2 (matAt m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

variable (hpre : ∀ c : Dev nD, InBlock (pairs m c) (counts m c))

include hpre

theorem count_le (c : Dev nD) (t : Fin cfg0.N) : (inN m c t (ix1 (blk t))).toInt ≤ 256 := by
  rw [inN_eq]; exact (hpre c).count _

theorem rows_lt (c : Dev nD) (t : Fin cfg0.N) (k : ℕ) (hk : k < (inN m c t (ix1 (blk t))).toInt.toNat) :
    (word (inI m c t) (2 * k)).toNat < 128 ∧ (word (inI m c t) (2 * k + 1)).toNat < 128 := by
  have hc := count_le m hpre c t
  rw [word_inI m c t (2 * k) (by omega), word_inI m c t (2 * k + 1) (by omega)]
  rw [inN_eq] at hk hc
  exact ⟨(hpre c).rows _ _ _ (by show ((2 * k / 2 : ℕ) : ℤ) < _; omega), (hpre c).rows _ _ _ (by show (((2 * k + 1) / 2 : ℕ) : ℤ) < _; omega)⟩

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves_live m c 0 t rfl, leaves_live m c 1 t rfl, leaves_live m c 2 t rfl, leaves_live m c 3 t rfl,
    after0_0, after0_1, after0_2, after0_3]
  iintro ⟨⟨HS, Hg⟩, Ho, ⟨%d0, H0⟩, ⟨%d1, H1⟩, ⟨%d2, H2⟩, ⟨%d3, H3⟩⟩
  iapply (wp_compose Variants.none c none Set.univ (grid0.coords t) (ms0_0 t) _ (ms0_1 t) _ (ms0_2 t) _ (ms0_3 t) _ scM0_0 _
    (inN m c t) (inI m c t) (inC m c t) (blk t) (point t) (count_le m hpre c t) (rows_lt m hpre c t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]
    · iexact HS
    iexact Hg
  isplitl [Ho]; · iexact Ho
  isplitl [H0]; · iexact H0
  isplitl [H1]; · iexact H1
  isplitl [H2]; · iexact H2
  iexact H3

omit hpre in
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hpre c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m hpre c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

/-- Every run ends, every array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ hpre)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ hpre)) ((θ_run defs _ _).mono (fun _ h => h.2) (run_main_quiescent m ρ hpre))

end Cert.ComposeIdeal.Gen

end
-- ==== Proof.ComposeReferenceValue.lean ====
/- The composition's reference, over the extended reals: each trip of its scan turns every block's matrix by the block's
   next rotation while the block has one left, so the last matrix is the composition of the rotations counted.

   The reference picks rows `i` and `j` as sums over masks, of which one term is not zero, and writes the turned rows back
   through the same masks. A trip that does not count writes back the rows it read. -/
module

public import proofs.«01_k».proof.Proof.Gen.ComposeReferenceIdeal.StepRun
public import proofs.«01_k».proof.Proof.Gen.ComposeIdeal.Skeleton
public import proofs.«01_k».proof.Proof.ComposePre
public import Idealize.ShloMosaic.Lib.DynamicIndex
public import Idealize.ShloMosaic.Lib.Pipeline.Value
public import Idealize.ShloMosaic.Lib.Tactic

@[expose] public section

noncomputable section

namespace Cert.ComposeReferenceIdeal.Comp

open Idealize.ShloMosaic Idealize.ShloMosaic.TcCoe Idealize.SL.Sem
open Cert.ComposeReferenceIdeal Cert.ComposeReferenceIdeal.Gen Cert.ComposeReferenceIdeal.Step
open Cert.ComposeReferenceIdeal.StepRun (initState run_iter)
open Cert.Composition (word composed turned turnI turnJ setRow rowOf InBlock)

/-! ## One trip, at an index -/

section Trip

variable (s : State Ideal) (j : ℕ) (hj : j < 256)

theorem start_eq (h : j < 256) : (BitVec.ofNat 32 j).toInt = j := by
  rw [BitVec.toInt_eq_toNat_bmod, BitVec.toNat_ofNat]
  simp only [Int.bmod]
  split <;> omega

include hj

theorem b2_apply (n : Fin 120) : b2 j s (ix1 n) = s.main_v17_0 (ix2 ⟨j, hj⟩ n) := by
  have hs : S256x120.Slices ![j, 0] S1x120 := ⟨rfl, fun a => by
    match a with
    | ⟨0, _⟩ => show j + 1 ≤ 256; omega
    | ⟨1, _⟩ => exact Nat.le_refl 120⟩
  unfold b2 b1
  rw [Host.dynamicSlice_eq_extractStridedSlice S1x120 _ _ ![j, 0] _ hs (fun a => by
    match a with
    | ⟨0, _⟩ => exact start_eq j hj
    | ⟨1, _⟩ => rfl)]
  pointwise

theorem b6_apply (n : Fin 120) (a : Fin 2) : b6 j s (ix2 n a) = s.main_v17_1 (ix3 ⟨j, hj⟩ n a) := by
  have hs : S256x120x2.Slices ![j, 0, 0] S1x120x2 := ⟨rfl, fun a => by
    match a with
    | ⟨0, _⟩ => show j + 1 ≤ 256; omega
    | ⟨1, _⟩ => exact Nat.le_refl 120
    | ⟨2, _⟩ => exact Nat.le_refl 2⟩
  unfold b6 b5
  rw [Host.dynamicSlice_eq_extractStridedSlice S1x120x2 _ _ ![j, 0, 0] _ hs (fun a => by
    match a with
    | ⟨0, _⟩ => exact start_eq j hj
    | ⟨1, _⟩ => rfl
    | ⟨2, _⟩ => rfl)]
  pointwise

theorem b10_apply (n : Fin 120) (a : Fin 2) : b10 j s (ix2 n a) = s.main_v17_2 (ix3 ⟨j, hj⟩ n a) := by
  have hs : S256x120x2.Slices ![j, 0, 0] S1x120x2 := ⟨rfl, fun a => by
    match a with
    | ⟨0, _⟩ => show j + 1 ≤ 256; omega
    | ⟨1, _⟩ => exact Nat.le_refl 120
    | ⟨2, _⟩ => exact Nat.le_refl 2⟩
  unfold b10 b9
  rw [Host.dynamicSlice_eq_extractStridedSlice S1x120x2 _ _ ![j, 0, 0] _ hs (fun a => by
    match a with
    | ⟨0, _⟩ => exact start_eq j hj
    | ⟨1, _⟩ => rfl
    | ⟨2, _⟩ => rfl)]
  pointwise

omit hj

theorem b25_apply (n : Fin 120) (r : Fin 128) : b25 j s (ix3 n r 0) = IntOp.cmpi .eq (BitVec.ofNat 32 r.val) (b6 j s (ix2 n 0)) := by
  unfold b25 b24 b23 b13 b12 b11 K_main_v8 K_main_v7
  generalize b6 j s = w
  pointwise

theorem b28_apply (n : Fin 120) (r : Fin 128) : b28 j s (ix3 n r 0) = IntOp.cmpi .eq (BitVec.ofNat 32 r.val) (b6 j s (ix2 n 1)) := by
  unfold b28 b27 b26 b16 b15 b14 K_main_v8 K_main_v7
  generalize b6 j s = w
  pointwise

theorem b19_apply (n : Fin 120) : b19 j s (ix3 n 0 0) = b10 j s (ix2 n 0) := by
  unfold b19 b18 b17
  generalize b10 j s = w
  pointwise

theorem b22_apply (n : Fin 120) : b22 j s (ix3 n 0 0) = b10 j s (ix2 n 1) := by
  unfold b22 b21 b20
  generalize b10 j s = w
  pointwise

/-- A row picked by a mask. -/
theorem b36_apply (n : Fin 120) (d : Fin 128) :
    b36 j s (ix3 n 0 d) = ∑ r : Fin 128, if b25 j s (ix3 n r 0) = 1#1 then s.main_v17_5 (ix3 n r d) else (0 : EReal) := by
  unfold b36 b35 b34 b33 b32 b31 b30 b29
  generalize b25 j s = w
  pointwise
  rfl

theorem b44_apply (n : Fin 120) (d : Fin 128) :
    b44 j s (ix3 n 0 d) = ∑ r : Fin 128, if b28 j s (ix3 n r 0) = 1#1 then s.main_v17_5 (ix3 n r d) else (0 : EReal) := by
  unfold b44 b43 b42 b41 b40 b39 b38 b37
  generalize b28 j s = w
  pointwise
  rfl

theorem b65_apply (n : Fin 120) (r d : Fin 128) : b65 j s (ix3 n r d)
    = if b25 j s (ix3 n r 0) = 1#1 then
        (if b2 j s (ix1 n) = 1#1 then
          b19 j s (ix3 n 0 0) * b36 j s (ix3 n 0 d) - b22 j s (ix3 n 0 0) * b44 j s (ix3 n 0 d)
        else b36 j s (ix3 n 0 d))
      else if b28 j s (ix3 n r 0) = 1#1 then
        (if b2 j s (ix1 n) = 1#1 then
          b22 j s (ix3 n 0 0) * b36 j s (ix3 n 0 d) + b19 j s (ix3 n 0 0) * b44 j s (ix3 n 0 d)
        else b44 j s (ix3 n 0 d))
      else s.main_v17_5 (ix3 n r d) := by
  unfold b65 b64 b63 b62 b61 b60 b59 b58 b57 b56 b55 b54 b53 b52 b51 b50 b49 b48 b47 b46 b45
  generalize b25 j s = w1
  generalize b28 j s = w2
  generalize b2 j s = w3
  generalize b19 j s = w4
  generalize b22 j s = w5
  generalize b36 j s = w6
  generalize b44 j s = w7
  pointwise
  rfl

end Trip

/-! ## One trip is one rotation -/

/-- A row's mask is set where the row is the one named. -/
theorem mask_iff (r : Fin 128) (w : BitVec 32) : IntOp.cmpi .eq (BitVec.ofNat 32 r.val) w = 1#1 ↔ w.toNat = r.val := by
  have hr : (BitVec.ofNat 32 r.val).toNat = r.val := by
    rw [BitVec.toNat_ofNat, Nat.mod_eq_of_lt (lt_trans r.isLt (by norm_num))]
  show BitVec.ofBool (BitVec.ofNat 32 r.val == w) = 1#1 ↔ _
  constructor
  · intro h
    by_cases e : BitVec.ofNat 32 r.val = w
    · rw [← e, hr]
    · rw [beq_false_of_ne e] at h; exact absurd h (by decide)
  · intro h
    have e : BitVec.ofNat 32 r.val = w := BitVec.eq_of_toNat_eq (hr.trans h.symm)
    rw [e, beq_self_eq_true]; rfl

/-- The sum over a mask that is set at one row only is that row's entry. -/
theorem pick (f : Fin 128 → EReal) (w : BitVec 32) (r0 : Fin 128) (h : w.toNat = r0.val) :
    (∑ r : Fin 128, if IntOp.cmpi .eq (BitVec.ofNat 32 r.val) w = 1#1 then f r else (0 : EReal)) = f r0 := by
  rw [Finset.sum_eq_single r0]
  · rw [if_pos ((mask_iff r0 w).2 h)]
  · intro r _ hr
    rw [if_neg (fun e => hr (Fin.ext (((mask_iff r w).1 e).symm.trans h)))]
  · intro h; exact absurd (Finset.mem_univ _) h

/-- Block `n`'s matrix. -/
def block (s : State Ideal) (n : Fin 120) : Cert.Composition.S128x128.Idx → EReal :=
  fun i => s.main_v17_5 (ix3 n (i 0) (i 1))

section Turn

variable (s : State Ideal) (j : ℕ) (hj : j < 256) (n : Fin 120)

include hj

theorem pick_i (r0 : Fin 128) (h : (s.main_v17_1 (ix3 ⟨j, hj⟩ n 0)).toNat = r0.val) (d : Fin 128) :
    b36 j s (ix3 n 0 d) = s.main_v17_5 (ix3 n r0 d) := by
  rw [b36_apply]
  simp only [b25_apply, b6_apply s j hj]
  exact pick (fun r => s.main_v17_5 (ix3 n r d)) _ r0 h

theorem pick_j (r0 : Fin 128) (h : (s.main_v17_1 (ix3 ⟨j, hj⟩ n 1)).toNat = r0.val) (d : Fin 128) :
    b44 j s (ix3 n 0 d) = s.main_v17_5 (ix3 n r0 d) := by
  rw [b44_apply]
  simp only [b28_apply, b6_apply s j hj]
  exact pick (fun r => s.main_v17_5 (ix3 n r d)) _ r0 h

/-- A trip past the block's count leaves its matrix as it was. -/
theorem block_rest (hl : s.main_v17_0 (ix2 ⟨j, hj⟩ n) ≠ 1#1) : block (step j s) n = block s n := by
  funext i
  obtain ⟨r, d, rfl⟩ : ∃ r d : Fin 128, i = ix2 r d := ⟨i 0, i 1, eq_ix2 i⟩
  show (step j s).main_v17_5 (ix3 n r d) = s.main_v17_5 (ix3 n r d)
  rw [step_main_v17_5, b65_apply, b2_apply s j hj, if_neg hl, if_neg hl]
  simp only [b25_apply, b28_apply, b6_apply s j hj]
  split
  · next h => exact pick_i s j hj n r ((mask_iff _ _).1 h) d
  · split
    · next h => exact pick_j s j hj n r ((mask_iff _ _).1 h) d
    · rfl

/-- A trip within the block's count turns its matrix by the block's rotation. -/
theorem block_turn (hl : s.main_v17_0 (ix2 ⟨j, hj⟩ n) = 1#1)
    (hi : (s.main_v17_1 (ix3 ⟨j, hj⟩ n 0)).toNat < 128) (hk : (s.main_v17_1 (ix3 ⟨j, hj⟩ n 1)).toNat < 128) :
    block (step j s) n = turned (F := Ideal) (s.main_v17_2 (ix3 ⟨j, hj⟩ n 0)) (s.main_v17_2 (ix3 ⟨j, hj⟩ n 1))
      (s.main_v17_1 (ix3 ⟨j, hj⟩ n 0)).toNat (s.main_v17_1 (ix3 ⟨j, hj⟩ n 1)).toNat (block s n) := by
  funext i
  obtain ⟨r, d, rfl⟩ : ∃ r d : Fin 128, i = ix2 r d := ⟨i 0, i 1, eq_ix2 i⟩
  have ei : (⟨(s.main_v17_1 (ix3 ⟨j, hj⟩ n 0)).toNat % 128, Nat.mod_lt _ (by omega)⟩ : Fin 128) = ⟨_, hi⟩ :=
    Fin.ext (Nat.mod_eq_of_lt hi)
  have ej : (⟨(s.main_v17_1 (ix3 ⟨j, hj⟩ n 1)).toNat % 128, Nat.mod_lt _ (by omega)⟩ : Fin 128) = ⟨_, hk⟩ :=
    Fin.ext (Nat.mod_eq_of_lt hk)
  show (step j s).main_v17_5 (ix3 n r d) = _
  rw [step_main_v17_5, b65_apply, b2_apply s j hj, if_pos hl, if_pos hl,
    pick_i s j hj n ⟨_, hi⟩ rfl, pick_j s j hj n ⟨_, hk⟩ rfl, b19_apply, b22_apply, b10_apply s j hj, b10_apply s j hj,
    b25_apply, b28_apply, b6_apply s j hj, b6_apply s j hj]
  unfold turned
  simp only [setRow, mask_iff]
  refine if_congr eq_comm ?_ (if_congr eq_comm ?_ rfl)
  · unfold turnI rowOf
    simp only [ei, ej]
    rfl
  · unfold turnJ rowOf
    simp only [ei, ej]
    rfl

end Turn

/-! ## All trips -/

variable (m : (ℓ : Loc nD τ sig) → Buf (Elt Ideal) ℓ) (ρ : Dev nD → PrngReg)

/-- The state after `k` trips. -/
def it (c : Dev nD) : ℕ → State Ideal
  | 0 => initState m c
  | k + 1 => step k (it c k)

theorem it_0 (c : Dev nD) (k : ℕ) : (it m c k).main_v17_0 = (initState m c).main_v17_0 := by
  induction k with
  | zero => rfl
  | succ k ih => exact ih

theorem it_1 (c : Dev nD) (k : ℕ) : (it m c k).main_v17_1 = (initState m c).main_v17_1 := by
  induction k with
  | zero => rfl
  | succ k ih => exact ih

theorem it_2 (c : Dev nD) (k : ℕ) : (it m c k).main_v17_2 = (initState m c).main_v17_2 := by
  induction k with
  | zero => rfl
  | succ k ih => exact ih

/-- Whether trip `k` counts for block `n`. -/
theorem live_iff (c : Dev nD) (k : Fin 256) (n : Fin 120) : (initState m c).main_v17_0 (ix2 k n) = 1#1
    ↔ (k.val : ℤ) < ((m ((c : Thread nD τ).loc main_arg2) : IVec S120 32) (ix1 n)).toInt := by
  have h : (initState m c).main_v17_0 (ix2 k n)
      = IntOp.cmpi .slt (BitVec.ofNat 32 k.val) ((m ((c : Thread nD τ).loc main_arg2) : IVec S120 32) (ix1 n)) := by
    show A_main_v14 (F := Ideal) _ _ _ (ix2 k n) = _
    unfold A_main_v14 A_main_v13 A_main_v11 K_main_v12 K_main_v10 K_main_v9
    pointwise
  rw [h]
  show BitVec.ofBool (BitVec.slt _ _) = 1#1 ↔ _
  rw [← start_eq k.val k.isLt, ← BitVec.slt_iff_toInt_lt]
  cases BitVec.slt _ _ <;> decide

theorem pair_eq (c : Dev nD) (k : Fin 256) (n : Fin 120) (a : Fin 2) : (initState m c).main_v17_1 (ix3 k n a)
    = (m ((c : Thread nD τ).loc main_arg0) : IVec S120x256x2 32) (ix3 n k a) := by
  unfold initState init A_main_v15
  pointwise

theorem coef_eq (c : Dev nD) (k : Fin 256) (n : Fin 120) (a : Fin 2) : (initState m c).main_v17_2 (ix3 k n a)
    = (m ((c : Thread nD τ).loc main_arg1) : FVec Ideal S120x256x2 .f32) (ix3 n k a) := by
  unfold initState init A_main_v16
  pointwise

/-- Every block starts at the identity. -/
theorem block_init (c : Dev nD) (n : Fin 120) :
    block (initState m c) n = (Cert.ComposeIdeal.Gen.k0_pay1 (F := Ideal) : Cert.Composition.S128x128.Idx → EReal) := by
  funext i
  obtain ⟨r, d, rfl⟩ : ∃ r d : Fin 128, i = ix2 r d := ⟨i 0, i 1, eq_ix2 i⟩
  show K_main_v6 (F := Ideal) (ix3 n r d) = _
  unfold K_main_v6 K_main_v5 K_main_v4 K_main_v3 K_main_v2 K_main_c K_main_v1 K_main_v0 Cert.ComposeIdeal.Gen.k0_pay1
  pointwise
  rw [show IntOp.addi (BitVec.ofNat 32 r.val) 0#32 = BitVec.ofNat 32 r.val from BitVec.add_zero _]
  generalize IntOp.cmpi CmpIPredicate.eq (BitVec.ofNat 32 r.val) (BitVec.ofNat 32 d.val) = b
  show ((b.toNat : ℝ) : EReal) = if b = 1#1 then 1 else 0
  obtain rfl | rfl : b = 0#1 ∨ b = 1#1 := by revert b; decide
  · norm_num
  · norm_num

/-- What the operations after the scan make of a block's matrix is what the kernel's body stores of it. -/
theorem packed (s : State Ideal) (n : Fin 120) (r d : Fin 256) : R_main_v29 s (ix3 n r d)
    = Cert.ComposeIdeal.Gen.k0_pay2 (F := Ideal) (block s n) (ix3 0 r d) := by
  unfold R_main_v29 Cert.ComposeIdeal.Gen.k0_pay2
  pointwise
  rfl

section All

variable (c : Dev nD) (n : Fin 120) (I : Cert.Composition.S1x1x512.Idx → BitVec 32) (C : Cert.Composition.S1x1x512.Idx → EReal)
  (hI : ∀ (k : Fin 256) (a : Fin 2), word I (2 * k.val + a.val) = (m ((c : Thread nD τ).loc main_arg0) : IVec S120x256x2 32) (ix3 n k a))
  (hC : ∀ (k : Fin 256) (a : Fin 2), word C (2 * k.val + a.val) = (m ((c : Thread nD τ).loc main_arg1) : FVec Ideal S120x256x2 .f32) (ix3 n k a))
  (hpre : InBlock (m ((c : Thread nD τ).loc main_arg0)) (m ((c : Thread nD τ).loc main_arg2)))

include hI hC hpre

/-- After `k` trips block `n` holds the composition of its first `k` rotations, or of all it counts. -/
theorem block_it (k : ℕ) (hk : k ≤ 256) : block (it m c k) n
    = composed (F := Ideal) I C Cert.ComposeIdeal.Gen.k0_pay1
        (min k ((m ((c : Thread nD τ).loc main_arg2) : IVec S120 32) (ix1 n)).toInt.toNat) := by
  induction k with
  | zero => rw [Nat.zero_min]; exact block_init m c n
  | succ k ih =>
    have hk' : k < 256 := hk
    have ih := ih (by omega)
    have hl := live_iff m c ⟨k, hk'⟩ n
    rw [← it_0 m c k] at hl
    show block (step k (it m c k)) n = _
    by_cases h : (k : ℤ) < ((m ((c : Thread nD τ).loc main_arg2) : IVec S120 32) (ix1 n)).toInt
    · have e0 : (it m c k).main_v17_1 (ix3 ⟨k, hk'⟩ n 0) = word I (2 * k) := by
        rw [it_1, pair_eq]; exact (hI ⟨k, hk'⟩ 0).symm
      have e1 : (it m c k).main_v17_1 (ix3 ⟨k, hk'⟩ n 1) = word I (2 * k + 1) := by
        rw [it_1, pair_eq]; exact (hI ⟨k, hk'⟩ 1).symm
      have e2 : (it m c k).main_v17_2 (ix3 ⟨k, hk'⟩ n 0) = word C (2 * k) := by
        rw [it_2, coef_eq]; exact (hC ⟨k, hk'⟩ 0).symm
      have e3 : (it m c k).main_v17_2 (ix3 ⟨k, hk'⟩ n 1) = word C (2 * k + 1) := by
        rw [it_2, coef_eq]; exact (hC ⟨k, hk'⟩ 1).symm
      have h0 := hpre.rows n ⟨k, hk'⟩ 0 h
      have h1 := hpre.rows n ⟨k, hk'⟩ 1 h
      rw [← pair_eq m c, ← it_1 m c k] at h0 h1
      rw [block_turn (it m c k) k hk' n (hl.2 h) h0 h1, e0, e1, e2, e3, ih,
        show min (k + 1) ((m ((c : Thread nD τ).loc main_arg2) : IVec S120 32) (ix1 n)).toInt.toNat = k + 1 from by omega,
        show min k ((m ((c : Thread nD τ).loc main_arg2) : IVec S120 32) (ix1 n)).toInt.toNat = k from by omega]
      rfl
    · rw [block_rest (it m c k) k hk' n (fun e => h (hl.1 e)), ih]
      congr 1
      omega

/-- Every entry of the result is the packed composition's. -/
theorem result_apply (r d : Fin 256) : R_main_v29 (it m c 256) (ix3 n r d)
    = Cert.ComposeIdeal.Gen.k0_pay2 (F := Ideal) (composed (F := Ideal) I C Cert.ComposeIdeal.Gen.k0_pay1
        ((m ((c : Thread nD τ).loc main_arg2) : IVec S120 32) (ix1 n)).toInt.toNat) (ix3 0 r d) := by
  have hc := hpre.count n
  rw [packed, block_it m c n I C hI hC hpre 256 le_rfl, Nat.min_eq_right (by omega)]

end All

end Cert.ComposeReferenceIdeal.Comp

end
-- ==== Proof.ComposeValue.lean ====
/- The composition's kernel, over the extended reals: block `n` of its result is the packed composition of the block's
   rotations, so it ends as its reference does. -/
module

public import proofs.«01_k».proof.Defs
public import proofs.«01_k».proof.Proof.ComposeFrame
public import proofs.«01_k».proof.Proof.ComposeIdealFrame
public import proofs.«01_k».proof.Proof.ComposeReferenceValue
public import Idealize.ShloMosaic.Lib.Pipeline.Value
public import Idealize.ShloMosaic.Lib.Tactic

@[expose] public section

noncomputable section

namespace Cert.ComposeIdeal.Comp

open Idealize.ShloMosaic Idealize.ShloMosaic.TcCoe Idealize.SL.Sem
open Idealize.ShloMosaic.Pipeline (Dat)
open Cert.ComposeIdeal Cert.ComposeIdeal.Gen
open Cert.Composition (InBlock word composed)

variable (m : (ℓ : Loc nD τ sig) → Buf (Elt Ideal) ℓ) (ρ : Dev nD → PrngReg)

/-- The point of block `n`. -/
abbrev at' (n : Fin 120) : Fin cfg0.N := ⟨n.val, lt_of_lt_of_eq n.isLt N_0.symm⟩

/-- Every block packed. -/
def result (c : Dev nD) : Buf (Elt Ideal) ((c : Thread nD τ).loc main_v2) := fun i =>
  k0_pay2 (F := Ideal) (matAt m c (at' (i 0))) (ix3 (n0 := 1) (n1 := 256) (n2 := 256) 0 (i 1) (i 2))

theorem idx_out (t : Fin cfg0.N) : win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0) t

theorem flush_out : ∀ t : Fin cfg0.N, (cfg0.win 3).flush t = true := by decide +kernel

theorem flushed_out (c : Dev nD) (t : Fin cfg0.N) :
    (dats m 0 c).flushed 3 t = ((cfg0.win 3).blk t).view.read (Elt Ideal) (result m c) := by
  have hi := idx_out t
  have ht : t.val < 120 := lt_of_lt_of_eq t.isLt N_0
  show (cfg0.win 3).cut (grid0.coords t) ((dats m 0 c).after 3 t) = _
  rw [after0_3]
  show k0_pay2 (matAt m c t) = _
  funext j
  obtain ⟨a, r, d, rfl⟩ : ∃ (a : Fin 1) (r d : Fin 256), j = ix3 a r d := ⟨j 0, j 1, j 2, eq_ix3 j⟩
  obtain rfl : a = 0 := Subsingleton.elim _ _
  rw [View.read_apply]
  have e : ((cfg0.win 3).blk t).view.emb (ix3 0 r d) = ix3 (n0 := 120) ⟨t.val, ht⟩ r d := by
    funext a
    apply Fin.ext
    match a with
    | ⟨0, _⟩ => show win0_3.index t 0 * 1 + 1 * 0 = t.val; rw [hi.1]; omega
    | ⟨1, _⟩ => show win0_3.index t 1 * 256 + 1 * r.val = r.val; rw [hi.2.1]; omega
    | ⟨2, _⟩ => show win0_3.index t 2 * 256 + 1 * d.val = d.val; rw [hi.2.2]; omega
  rw [e]
  rfl

theorem cover_out (i : S120x256x256.Idx) : ∃ t : Fin cfg0.N, (cfg0.win 3).flush t = true ∧ i ∈ ((cfg0.win 3).blk t).view.set := by
  have h0 : (i 0 : Nat) < 120 := (i 0).isLt
  have h1 : (i 1 : Nat) < 256 := (i 1).isLt
  have h2 : (i 2 : Nat) < 256 := (i 2).isLt
  refine ⟨at' (i 0), flush_out _, ?_⟩
  have hi := idx_out (at' (i 0))
  show i ∈ ((View.whole main_v2).slice (win0_3.rect (at' (i 0)))).set
  rw [View.set_slice_whole, Rect.mem_set_unit]
  intro a
  match a with
  | ⟨0, _⟩ =>
    show win0_3.index (at' (i 0)) 0 * 1 ≤ (i 0 : Nat) ∧ (i 0 : Nat) < win0_3.index (at' (i 0)) 0 * 1 + 1
    rw [hi.1]; dsimp only; omega
  | ⟨1, _⟩ =>
    show win0_3.index (at' (i 0)) 1 * 256 ≤ (i 1 : Nat) ∧ (i 1 : Nat) < win0_3.index (at' (i 0)) 1 * 256 + 256
    rw [hi.2.1]; omega
  | ⟨2, _⟩ =>
    show win0_3.index (at' (i 0)) 2 * 256 ≤ (i 2 : Nat) ∧ (i 2 : Nat) < win0_3.index (at' (i 0)) 2 * 256 + 256
    rw [hi.2.2]; omega

theorem final_out (c : Dev nD) : (dats m 0 c).arrAt 3 cfg0.N = result m c :=
  (dats m 0 c).arrAt_eq_of_cover 3 (result m c) (fun t _ => flushed_out m c t) cover_out

/-- The kernel ends with every block packed, its arguments unchanged. -/
theorem run (hpre : ∀ c : Dev nD, InBlock (pairs m c) (counts m c)) :
    θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  have hargs := frame_of m ρ (dats m) (A_eq m) (run_main m ρ hpre)
  refine (θ_run defs _ _).mono (fun r h c => ?_) (θ_run_and (run_main m ρ hpre) hargs)
  exact ⟨((h.1 c).1 3).trans (final_out m c), h.2 c⟩

end Cert.ComposeIdeal.Comp

namespace Cert.Proof.CompositionClaim

open Idealize.ShloMosaic Idealize.ShloMosaic.TcCoe Idealize.SL.Sem
open Cert.Composition (in_block InBlock)

theorem frame : Cert.quiescent_Compose := fun m ρ hpre =>
  Cert.Compose.Gen.frame m ρ fun c => in_block (hpre c)

theorem frame_ideal : Cert.quiescent_ComposeIdeal := fun m ρ hpre =>
  Cert.ComposeIdeal.Gen.frame m ρ fun c => in_block (hpre c)

/-- The reference has no counter, and leaves its arguments. -/
theorem frame_reference : Cert.quiescent_ComposeReferenceIdeal := fun m ρ _ =>
  (θ_run Cert.ComposeReferenceIdeal.defs _ _).mono (fun r h => ⟨fun c => (h c).2, sem_eq_zero_of_no_sems (by decide) r.2⟩)
    (Cert.ComposeReferenceIdeal.Value.run (F := Ideal) m ρ)

/-- The kernel's composition and the reference's scan end with equal packed matrices, over the extended reals. -/
theorem algebraic : Cert.algebraic_ComposeIdeal_ComposeReferenceIdeal := by
  intro m ρ m' ρ' hpre hagree
  have hin : ∀ c : Dev Cert.ComposeIdeal.nD, InBlock (Cert.ComposeIdeal.Gen.pairs m c) (Cert.ComposeIdeal.Gen.counts m c) :=
    fun c => in_block (hpre c)
  refine ⟨fun c => Cert.ComposeIdeal.Comp.result m c, Cert.ComposeIdeal.Comp.run m ρ hin, ?_⟩
  refine (θ_run Cert.ComposeReferenceIdeal.defs _ _).mono (fun _ h c => ⟨(h c).1.trans ?_, (h c).2⟩)
    (Cert.ComposeReferenceIdeal.StepRun.run_iter m' ρ' (Cert.ComposeReferenceIdeal.Comp.it m') (fun _ => rfl) (fun _ _ => rfl))
  obtain ⟨h0, h1, h2⟩ := hagree c
  funext i
  obtain ⟨n, r, d, rfl⟩ : ∃ (n : Fin 120) (r d : Fin 256), i = ix3 n r d := ⟨i 0, i 1, i 2, eq_ix3 i⟩
  refine (Cert.ComposeReferenceIdeal.Comp.result_apply m' c n
    (Cert.ComposeIdeal.Gen.inI m c (Cert.ComposeIdeal.Comp.at' n)) (Cert.ComposeIdeal.Gen.inC m c (Cert.ComposeIdeal.Comp.at' n))
    (fun k a => ?_) (fun k a => ?_) ?_ r d).trans ?_
  · rw [h0]
    have hk := k.isLt
    have ha := a.isLt
    rw [Cert.ComposeIdeal.Gen.word_inI m c _ _ (by omega)]
    congr 2 <;> exact Fin.ext (by dsimp only; omega)
  · rw [h1]
    have hk := k.isLt
    have ha := a.isLt
    rw [Cert.ComposeIdeal.Gen.word_inC m c _ _ (by omega)]
    congr 2 <;> exact Fin.ext (by dsimp only; omega)
  · rw [h0, h2]; exact hin c
  · rw [h2]
    show _ = Cert.ComposeIdeal.Gen.k0_pay2 (F := Ideal) (Cert.ComposeIdeal.Gen.matAt m c (Cert.ComposeIdeal.Comp.at' n)) (ix3 0 r d)
    unfold Cert.ComposeIdeal.Gen.matAt
    rw [Cert.ComposeIdeal.Gen.inN_eq]

end Cert.Proof.CompositionClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Rotate
public import proofs.«01_k».proof.Proof.Gen.Rotate.Skeleton
public import proofs.«01_k».proof.Proof.Gen.Rotate.Launch
public import proofs.«01_k».proof.Proof.Gen.Rotate.Points
public import proofs.«01_k».proof.Proof.Gen.Rotate.Frame
public import proofs.«01_k».proof.Proof.Gen.RotateIdeal
public import proofs.«01_k».proof.Proof.Gen.RotateIdeal.Skeleton
public import proofs.«01_k».proof.Proof.Gen.RotateIdeal.Launch
public import proofs.«01_k».proof.Proof.Gen.RotateIdeal.Points
public import proofs.«01_k».proof.Proof.Gen.RotateIdeal.Frame
public import proofs.«01_k».proof.Proof.Gen.RotateReferenceIdeal
public import proofs.«01_k».proof.Proof.Gen.RotateReferenceIdeal.Skeleton
public import proofs.«01_k».proof.Proof.Gen.RotateReferenceIdeal.Launch
public import proofs.«01_k».proof.Proof.Gen.RotateReferenceIdeal.Points
public import proofs.«01_k».proof.Proof.Gen.RotateReferenceIdeal.Frame
public import proofs.«01_k».proof.Proof.Gen.RotateReferenceIdeal.Value
public import proofs.«01_k».proof.Proof.Gen.KernelIdeal.Value
public import proofs.«01_k».proof.Proof.Gen.ReferenceIdeal.Value
public import proofs.«01_k».proof.Proof.LinearValue
public import proofs.«01_k».proof.Proof.RotateFrame
public import proofs.«01_k».proof.Proof.RotateIdealFrame
public import proofs.«01_k».proof.Proof.RotateValue
public import proofs.«01_k».proof.Proof.ComposeValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Rotate.Gen.facts, Cert.RotateIdeal.Gen.facts, Cert.RotateReferenceIdeal.Gen.facts,
  Cert.Compose.Gen.facts, Cert.ComposeIdeal.Gen.facts, Cert.ComposeReferenceIdeal.Gen.facts, Cert.Pre_rotations_in_block.Gen.facts,
  fun m ρ _ => Cert.Kernel.Gen.frame m ρ, fun m ρ _ => Cert.KernelIdeal.Gen.frame m ρ,
  fun m ρ _ => Cert.ReferenceIdeal.Gen.frame m ρ,
  fun m ρ _ => Cert.Rotate.Gen.frame m ρ, fun m ρ _ => Cert.RotateIdeal.Gen.frame m ρ,
  fun m ρ _ => Cert.RotateReferenceIdeal.Gen.frame m ρ,
  CompositionClaim.frame, CompositionClaim.frame_ideal, CompositionClaim.frame_reference,
  fun m ρ _ => CompositionClaim.frame_reference m ρ trivial,
  trivial, LinearClaim.algebraic, trivial, RotationClaim.algebraic, trivial, CompositionClaim.algebraic⟩

end Cert.Proof

end
